-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![2048, 2048]⟩ ⟨2, ![4096, 2048]⟩ (Layout.meshBlock [2, 2, 2] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S1x2048 : Shape := ⟨2, ![1, 2048]⟩
abbrev S2048x2048 : Shape := ⟨2, ![2048, 2048]⟩
abbrev S512x2048 : Shape := ⟨2, ![512, 2048]⟩
abbrev S2 : Shape := ⟨1, ![2]⟩
abbrev S16 : Shape := ⟨1, ![16]⟩
abbrev S8 : Shape := ⟨1, ![8]⟩
abbrev S_ : Shape := ⟨0, ![]⟩
abbrev S1 : Shape := ⟨1, ![1]⟩
abbrev S1x512x2048 : Shape := ⟨3, ![1, 512, 2048]⟩
abbrev S1x2048x2048 : Shape := ⟨3, ![1, 2048, 2048]⟩
abbrev S32x2048 : Shape := ⟨2, ![32, 2048]⟩
abbrev S32 : Shape := ⟨1, ![32]⟩
abbrev S32x1 : Shape := ⟨2, ![32, 1]⟩

abbrev nBuf : Space → Nat
  | .hbm => 4
  | .vmem => 9
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S1x2048, .f32⟩
  | .hbm, ⟨3, _⟩ => ⟨S2048x2048, .f32⟩
  | .local _ .vmem, ⟨0, _⟩ => ⟨S1x2048, .f32⟩
  | .local _ .vmem, ⟨1, _⟩ => ⟨S2048x2048, .f32⟩
  | .local _ .vmem, ⟨2, _⟩ => ⟨S2048x2048, .f32⟩
  | .local _ .vmem, ⟨3, _⟩ => ⟨S512x2048, .f32⟩
  | .local _ .vmem, ⟨4, _⟩ => ⟨S512x2048, .fp8e4m3⟩
  | .local _ .vmem, ⟨5, _⟩ => ⟨S512x2048, .fp8e4m3⟩
  | .local _ .vmem, ⟨6, _⟩ => ⟨S512x2048, .fp8e4m3⟩
  | .local _ .vmem, ⟨7, _⟩ => ⟨S512x2048, .fp8e4m3⟩
  | .local _ .vmem, ⟨8, _⟩ => ⟨S512x2048, .fp8e4m3⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v29 : BitVec 32 := Scalar.muli v9 c1_i32_17
  let v30 : BitVec 32 := Scalar.addi v28 v29
  v30.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v31 : BitVec 32 := Scalar.muli v10 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_26 : BitVec 32 := 2#32
  let v39 : BitVec 32 := Scalar.muli v11 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) : Fin 3 → Nat :=
  let c0_i32_30 : BitVec 32 := 0#32
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v44 : BitVec 32 := Scalar.subi c1_i32_28 v8
  let c2048_i32_29 : BitVec 32 := 2048#32
  let v45 : BitVec 32 := Scalar.muli v44 c2048_i32_29
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32 : BitVec 32 := 512#32
  let v46 : BitVec 32 := Scalar.muli v13 c512_i32
  let v47 : BitVec 32 := Scalar.addi v45 v46
  let c0_i32_32 : BitVec 32 := 0#32
  ![0, v47.toNat, 0]
def k0_off2 (d0 : Dev nD) : Fin 3 → Nat :=
  let c0_i32_33 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c2048_i32 : BitVec 32 := 2048#32
  let v43 : BitVec 32 := Scalar.muli v8 c2048_i32
  let c0_i32_35 : BitVec 32 := 0#32
  ![0, v43.toNat, 0]
def k0_dev4 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v65 : BitVec 32 := Scalar.muli v2 c4_i32_44
  let v66 : BitVec 32 := Scalar.addi c0_i32_45 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_46 : BitVec 32 := 2#32
  let v67 : BitVec 32 := Scalar.muli v5 c2_i32_46
  let v68 : BitVec 32 := Scalar.addi v66 v67
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_47 : BitVec 32 := 1#32
  let v69 : BitVec 32 := Scalar.muli v9 c1_i32_47
  let v70 : BitVec 32 := Scalar.addi v68 v69
  v70.toNat
def k0_dev5 (d0 : Dev nD) : Nat :=
  let c0_i32_58 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_57 : BitVec 32 := 4#32
  let v82 : BitVec 32 := Scalar.muli v2 c4_i32_57
  let v83 : BitVec 32 := Scalar.addi c0_i32_58 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v84 : BitVec 32 := Scalar.muli v5 c2_i32_59
  let v85 : BitVec 32 := Scalar.addi v83 v84
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_60 : BitVec 32 := 1#32
  let v86 : BitVec 32 := Scalar.muli v9 c1_i32_60
  let v87 : BitVec 32 := Scalar.addi v85 v86
  v87.toNat
def k0_dev6 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_69 : BitVec 32 := 4#32
  let v99 : BitVec 32 := Scalar.muli v2 c4_i32_69
  let v100 : BitVec 32 := Scalar.addi c0_i32_70 v99
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v101 : BitVec 32 := Scalar.muli v5 c2_i32_71
  let v102 : BitVec 32 := Scalar.addi v100 v101
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_72 : BitVec 32 := 1#32
  let v103 : BitVec 32 := Scalar.muli v9 c1_i32_72
  let v104 : BitVec 32 := Scalar.addi v102 v103
  v104.toNat
def k0_dev7 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_81 : BitVec 32 := 4#32
  let v116 : BitVec 32 := Scalar.muli v2 c4_i32_81
  let v117 : BitVec 32 := Scalar.addi c0_i32_82 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_83 : BitVec 32 := 2#32
  let v118 : BitVec 32 := Scalar.muli v5 c2_i32_83
  let v119 : BitVec 32 := Scalar.addi v117 v118
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_84 : BitVec 32 := 1#32
  let v120 : BitVec 32 := Scalar.muli v9 c1_i32_84
  let v121 : BitVec 32 := Scalar.addi v119 v120
  v121.toNat
def k0_dev8 (d0 : Dev nD) : Nat :=
  let c0_i32_94 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_93 : BitVec 32 := 4#32
  let v133 : BitVec 32 := Scalar.muli v2 c4_i32_93
  let v134 : BitVec 32 := Scalar.addi c0_i32_94 v133
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v135 : BitVec 32 := Scalar.muli v5 c2_i32_95
  let v136 : BitVec 32 := Scalar.addi v134 v135
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_96 : BitVec 32 := 1#32
  let v137 : BitVec 32 := Scalar.muli v9 c1_i32_96
  let v138 : BitVec 32 := Scalar.addi v136 v137
  v138.toNat
def k0_dev9 (d0 : Dev nD) : Nat :=
  let c0_i32_105 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_104 : BitVec 32 := 4#32
  let v150 : BitVec 32 := Scalar.muli v2 c4_i32_104
  let v151 : BitVec 32 := Scalar.addi c0_i32_105 v150
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_106 : BitVec 32 := 2#32
  let v152 : BitVec 32 := Scalar.muli v5 c2_i32_106
  let v153 : BitVec 32 := Scalar.addi v151 v152
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_107 : BitVec 32 := 1#32
  let v154 : BitVec 32 := Scalar.muli v9 c1_i32_107
  let v155 : BitVec 32 := Scalar.addi v153 v154
  v155.toNat
def k0_dev10 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_115 : BitVec 32 := 4#32
  let v167 : BitVec 32 := Scalar.muli v2 c4_i32_115
  let v168 : BitVec 32 := Scalar.addi c0_i32_116 v167
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v169 : BitVec 32 := Scalar.muli v5 c2_i32_117
  let v170 : BitVec 32 := Scalar.addi v168 v169
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_118 : BitVec 32 := 1#32
  let v171 : BitVec 32 := Scalar.muli v9 c1_i32_118
  let v172 : BitVec 32 := Scalar.addi v170 v171
  v172.toNat
def k0_dev11 (d0 : Dev nD) : Nat :=
  let c0_i32_127 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_126 : BitVec 32 := 4#32
  let v184 : BitVec 32 := Scalar.muli v2 c4_i32_126
  let v185 : BitVec 32 := Scalar.addi c0_i32_127 v184
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v186 : BitVec 32 := Scalar.muli v5 c2_i32_128
  let v187 : BitVec 32 := Scalar.addi v185 v186
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_129 : BitVec 32 := 1#32
  let v188 : BitVec 32 := Scalar.muli v9 c1_i32_129
  let v189 : BitVec 32 := Scalar.addi v187 v188
  v189.toNat
def k0_dev12 (d0 : Dev nD) : Nat :=
  let c0_i32_138 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_137 : BitVec 32 := 4#32
  let v201 : BitVec 32 := Scalar.muli v2 c4_i32_137
  let v202 : BitVec 32 := Scalar.addi c0_i32_138 v201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_139 : BitVec 32 := 2#32
  let v203 : BitVec 32 := Scalar.muli v5 c2_i32_139
  let v204 : BitVec 32 := Scalar.addi v202 v203
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_140 : BitVec 32 := 1#32
  let v205 : BitVec 32 := Scalar.muli v9 c1_i32_140
  let v206 : BitVec 32 := Scalar.addi v204 v205
  v206.toNat
def k0_dev13 (d0 : Dev nD) : Nat :=
  let c0_i32_149 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_148 : BitVec 32 := 4#32
  let v218 : BitVec 32 := Scalar.muli v2 c4_i32_148
  let v219 : BitVec 32 := Scalar.addi c0_i32_149 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_150 : BitVec 32 := 2#32
  let v220 : BitVec 32 := Scalar.muli v5 c2_i32_150
  let v221 : BitVec 32 := Scalar.addi v219 v220
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_151 : BitVec 32 := 1#32
  let v222 : BitVec 32 := Scalar.muli v9 c1_i32_151
  let v223 : BitVec 32 := Scalar.addi v221 v222
  v223.toNat
def k0_dev14 (d0 : Dev nD) : Nat :=
  let c0_i32_160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_159 : BitVec 32 := 4#32
  let v235 : BitVec 32 := Scalar.muli v2 c4_i32_159
  let v236 : BitVec 32 := Scalar.addi c0_i32_160 v235
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_161 : BitVec 32 := 2#32
  let v237 : BitVec 32 := Scalar.muli v5 c2_i32_161
  let v238 : BitVec 32 := Scalar.addi v236 v237
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_162 : BitVec 32 := 1#32
  let v239 : BitVec 32 := Scalar.muli v9 c1_i32_162
  let v240 : BitVec 32 := Scalar.addi v238 v239
  v240.toNat
def k0_dev15 (d0 : Dev nD) : Nat :=
  let c0_i32_171 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_170 : BitVec 32 := 4#32
  let v252 : BitVec 32 := Scalar.muli v2 c4_i32_170
  let v253 : BitVec 32 := Scalar.addi c0_i32_171 v252
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_172 : BitVec 32 := 2#32
  let v254 : BitVec 32 := Scalar.muli v5 c2_i32_172
  let v255 : BitVec 32 := Scalar.addi v253 v254
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_173 : BitVec 32 := 1#32
  let v256 : BitVec 32 := Scalar.muli v9 c1_i32_173
  let v257 : BitVec 32 := Scalar.addi v255 v256
  v257.toNat
def k0_dev16 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_181 : BitVec 32 := 4#32
  let v269 : BitVec 32 := Scalar.muli v2 c4_i32_181
  let v270 : BitVec 32 := Scalar.addi c0_i32_182 v269
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_183 : BitVec 32 := 2#32
  let v271 : BitVec 32 := Scalar.muli v5 c2_i32_183
  let v272 : BitVec 32 := Scalar.addi v270 v271
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_184 : BitVec 32 := 1#32
  let v273 : BitVec 32 := Scalar.muli v9 c1_i32_184
  let v274 : BitVec 32 := Scalar.addi v272 v273
  v274.toNat
def k0_dev17 (d0 : Dev nD) : Nat :=
  let c0_i32_193 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_192 : BitVec 32 := 4#32
  let v286 : BitVec 32 := Scalar.muli v2 c4_i32_192
  let v287 : BitVec 32 := Scalar.addi c0_i32_193 v286
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_194 : BitVec 32 := 2#32
  let v288 : BitVec 32 := Scalar.muli v5 c2_i32_194
  let v289 : BitVec 32 := Scalar.addi v287 v288
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_195 : BitVec 32 := 1#32
  let v290 : BitVec 32 := Scalar.muli v9 c1_i32_195
  let v291 : BitVec 32 := Scalar.addi v289 v290
  v291.toNat
def k0_dev18 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v303 : BitVec 32 := Scalar.muli v2 c4_i32_203
  let v304 : BitVec 32 := Scalar.addi c0_i32_204 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_205 : BitVec 32 := 2#32
  let v305 : BitVec 32 := Scalar.muli v5 c2_i32_205
  let v306 : BitVec 32 := Scalar.addi v304 v305
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_206 : BitVec 32 := 1#32
  let v307 : BitVec 32 := Scalar.muli v9 c1_i32_206
  let v308 : BitVec 32 := Scalar.addi v306 v307
  v308.toNat
def k0_dev19 (d0 : Dev nD) : Nat :=
  let c0_i32_215 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_214 : BitVec 32 := 4#32
  let v320 : BitVec 32 := Scalar.muli v2 c4_i32_214
  let v321 : BitVec 32 := Scalar.addi c0_i32_215 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_216 : BitVec 32 := 2#32
  let v322 : BitVec 32 := Scalar.muli v5 c2_i32_216
  let v323 : BitVec 32 := Scalar.addi v321 v322
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_217 : BitVec 32 := 1#32
  let v324 : BitVec 32 := Scalar.muli v9 c1_i32_217
  let v325 : BitVec 32 := Scalar.addi v323 v324
  v325.toNat
def k0_dev20 (d0 : Dev nD) : Nat :=
  let c0_i32_237 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_236 : BitVec 32 := 4#32
  let v346 : BitVec 32 := Scalar.muli v10 c4_i32_236
  let v347 : BitVec 32 := Scalar.addi c0_i32_237 v346
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v348 : BitVec 32 := Scalar.muli v5 c2_i32_238
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_239 : BitVec 32 := 1#32
  let v350 : BitVec 32 := Scalar.muli v8 c1_i32_239
  let v351 : BitVec 32 := Scalar.addi v349 v350
  v351.toNat
def k0_dev21 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v358 : BitVec 32 := Scalar.muli v2 c4_i32_246
  let v359 : BitVec 32 := Scalar.addi c0_i32_247 v358
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_248 : BitVec 32 := 2#32
  let v360 : BitVec 32 := Scalar.muli v11 c2_i32_248
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_249 : BitVec 32 := 1#32
  let v362 : BitVec 32 := Scalar.muli v8 c1_i32_249
  let v363 : BitVec 32 := Scalar.addi v361 v362
  v363.toNat
def k0_off3 (d0 : Dev nD) (c0_i32_255 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c512_i32_254 : BitVec 32 := 512#32
  let v370 : BitVec 32 := Scalar.muli v13 c512_i32_254
  let v371 : BitVec 32 := Scalar.addi v370 c0_i32_255
  let v372 : Index := Scalar.indexCast v371
  let c0_256 : Index := 0#32
  ![v372.toNat, 0]
def k0_dev22 (d0 : Dev nD) : Nat :=
  let c0_i32_277 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_276 : BitVec 32 := 4#32
  let v403 : BitVec 32 := Scalar.muli v10 c4_i32_276
  let v404 : BitVec 32 := Scalar.addi c0_i32_277 v403
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_278 : BitVec 32 := 2#32
  let v405 : BitVec 32 := Scalar.muli v5 c2_i32_278
  let v406 : BitVec 32 := Scalar.addi v404 v405
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_279 : BitVec 32 := 1#32
  let v407 : BitVec 32 := Scalar.muli v8 c1_i32_279
  let v408 : BitVec 32 := Scalar.addi v406 v407
  v408.toNat
def k0_dev23 (d0 : Dev nD) : Nat :=
  let c0_i32_287 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_286 : BitVec 32 := 4#32
  let v415 : BitVec 32 := Scalar.muli v2 c4_i32_286
  let v416 : BitVec 32 := Scalar.addi c0_i32_287 v415
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_288 : BitVec 32 := 2#32
  let v417 : BitVec 32 := Scalar.muli v11 c2_i32_288
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_289 : BitVec 32 := 1#32
  let v419 : BitVec 32 := Scalar.muli v8 c1_i32_289
  let v420 : BitVec 32 := Scalar.addi v418 v419
  v420.toNat
def k0_dev24 (d0 : Dev nD) : Nat :=
  let c0_i32_318 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_317 : BitVec 32 := 4#32
  let v460 : BitVec 32 := Scalar.muli v10 c4_i32_317
  let v461 : BitVec 32 := Scalar.addi c0_i32_318 v460
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_319 : BitVec 32 := 2#32
  let v462 : BitVec 32 := Scalar.muli v5 c2_i32_319
  let v463 : BitVec 32 := Scalar.addi v461 v462
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_320 : BitVec 32 := 1#32
  let v464 : BitVec 32 := Scalar.muli v8 c1_i32_320
  let v465 : BitVec 32 := Scalar.addi v463 v464
  v465.toNat
def k0_dev25 (d0 : Dev nD) : Nat :=
  let c0_i32_328 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_327 : BitVec 32 := 4#32
  let v472 : BitVec 32 := Scalar.muli v2 c4_i32_327
  let v473 : BitVec 32 := Scalar.addi c0_i32_328 v472
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_329 : BitVec 32 := 2#32
  let v474 : BitVec 32 := Scalar.muli v11 c2_i32_329
  let v475 : BitVec 32 := Scalar.addi v473 v474
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_330 : BitVec 32 := 1#32
  let v476 : BitVec 32 := Scalar.muli v8 c1_i32_330
  let v477 : BitVec 32 := Scalar.addi v475 v476
  v477.toNat
def k0_dev26 (d0 : Dev nD) : Nat :=
  let c0_i32_359 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_358 : BitVec 32 := 4#32
  let v517 : BitVec 32 := Scalar.muli v10 c4_i32_358
  let v518 : BitVec 32 := Scalar.addi c0_i32_359 v517
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_360 : BitVec 32 := 2#32
  let v519 : BitVec 32 := Scalar.muli v5 c2_i32_360
  let v520 : BitVec 32 := Scalar.addi v518 v519
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_361 : BitVec 32 := 1#32
  let v521 : BitVec 32 := Scalar.muli v8 c1_i32_361
  let v522 : BitVec 32 := Scalar.addi v520 v521
  v522.toNat
def k0_dev27 (d0 : Dev nD) : Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_368 : BitVec 32 := 4#32
  let v529 : BitVec 32 := Scalar.muli v2 c4_i32_368
  let v530 : BitVec 32 := Scalar.addi c0_i32_369 v529
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_370 : BitVec 32 := 2#32
  let v531 : BitVec 32 := Scalar.muli v11 c2_i32_370
  let v532 : BitVec 32 := Scalar.addi v530 v531
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_371 : BitVec 32 := 1#32
  let v533 : BitVec 32 := Scalar.muli v8 c1_i32_371
  let v534 : BitVec 32 := Scalar.addi v532 v533
  v534.toNat
def k0_dev28 (d0 : Dev nD) : Nat :=
  let c0_i32_400 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_399 : BitVec 32 := 4#32
  let v574 : BitVec 32 := Scalar.muli v10 c4_i32_399
  let v575 : BitVec 32 := Scalar.addi c0_i32_400 v574
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_401 : BitVec 32 := 2#32
  let v576 : BitVec 32 := Scalar.muli v5 c2_i32_401
  let v577 : BitVec 32 := Scalar.addi v575 v576
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_402 : BitVec 32 := 1#32
  let v578 : BitVec 32 := Scalar.muli v8 c1_i32_402
  let v579 : BitVec 32 := Scalar.addi v577 v578
  v579.toNat
def k0_dev29 (d0 : Dev nD) : Nat :=
  let c0_i32_410 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_409 : BitVec 32 := 4#32
  let v586 : BitVec 32 := Scalar.muli v2 c4_i32_409
  let v587 : BitVec 32 := Scalar.addi c0_i32_410 v586
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_411 : BitVec 32 := 2#32
  let v588 : BitVec 32 := Scalar.muli v11 c2_i32_411
  let v589 : BitVec 32 := Scalar.addi v587 v588
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_412 : BitVec 32 := 1#32
  let v590 : BitVec 32 := Scalar.muli v8 c1_i32_412
  let v591 : BitVec 32 := Scalar.addi v589 v590
  v591.toNat
def k0_dev30 (d0 : Dev nD) : Nat :=
  let c0_i32_441 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_440 : BitVec 32 := 4#32
  let v631 : BitVec 32 := Scalar.muli v10 c4_i32_440
  let v632 : BitVec 32 := Scalar.addi c0_i32_441 v631
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_442 : BitVec 32 := 2#32
  let v633 : BitVec 32 := Scalar.muli v5 c2_i32_442
  let v634 : BitVec 32 := Scalar.addi v632 v633
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_443 : BitVec 32 := 1#32
  let v635 : BitVec 32 := Scalar.muli v8 c1_i32_443
  let v636 : BitVec 32 := Scalar.addi v634 v635
  v636.toNat
def k0_dev31 (d0 : Dev nD) : Nat :=
  let c0_i32_451 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_450 : BitVec 32 := 4#32
  let v643 : BitVec 32 := Scalar.muli v2 c4_i32_450
  let v644 : BitVec 32 := Scalar.addi c0_i32_451 v643
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_452 : BitVec 32 := 2#32
  let v645 : BitVec 32 := Scalar.muli v11 c2_i32_452
  let v646 : BitVec 32 := Scalar.addi v644 v645
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_453 : BitVec 32 := 1#32
  let v647 : BitVec 32 := Scalar.muli v8 c1_i32_453
  let v648 : BitVec 32 := Scalar.addi v646 v647
  v648.toNat
def k0_dev32 (d0 : Dev nD) : Nat :=
  let c0_i32_482 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_481 : BitVec 32 := 4#32
  let v688 : BitVec 32 := Scalar.muli v10 c4_i32_481
  let v689 : BitVec 32 := Scalar.addi c0_i32_482 v688
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_483 : BitVec 32 := 2#32
  let v690 : BitVec 32 := Scalar.muli v5 c2_i32_483
  let v691 : BitVec 32 := Scalar.addi v689 v690
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_484 : BitVec 32 := 1#32
  let v692 : BitVec 32 := Scalar.muli v8 c1_i32_484
  let v693 : BitVec 32 := Scalar.addi v691 v692
  v693.toNat
def k0_dev33 (d0 : Dev nD) : Nat :=
  let c0_i32_492 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_491 : BitVec 32 := 4#32
  let v700 : BitVec 32 := Scalar.muli v2 c4_i32_491
  let v701 : BitVec 32 := Scalar.addi c0_i32_492 v700
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_493 : BitVec 32 := 2#32
  let v702 : BitVec 32 := Scalar.muli v11 c2_i32_493
  let v703 : BitVec 32 := Scalar.addi v701 v702
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_494 : BitVec 32 := 1#32
  let v704 : BitVec 32 := Scalar.muli v8 c1_i32_494
  let v705 : BitVec 32 := Scalar.addi v703 v704
  v705.toNat
def k0_dev34 (d0 : Dev nD) : Nat :=
  let c0_i32_523 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_522 : BitVec 32 := 4#32
  let v745 : BitVec 32 := Scalar.muli v10 c4_i32_522
  let v746 : BitVec 32 := Scalar.addi c0_i32_523 v745
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_524 : BitVec 32 := 2#32
  let v747 : BitVec 32 := Scalar.muli v5 c2_i32_524
  let v748 : BitVec 32 := Scalar.addi v746 v747
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_525 : BitVec 32 := 1#32
  let v749 : BitVec 32 := Scalar.muli v8 c1_i32_525
  let v750 : BitVec 32 := Scalar.addi v748 v749
  v750.toNat
def k0_dev35 (d0 : Dev nD) : Nat :=
  let c0_i32_533 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_532 : BitVec 32 := 4#32
  let v757 : BitVec 32 := Scalar.muli v2 c4_i32_532
  let v758 : BitVec 32 := Scalar.addi c0_i32_533 v757
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_534 : BitVec 32 := 2#32
  let v759 : BitVec 32 := Scalar.muli v11 c2_i32_534
  let v760 : BitVec 32 := Scalar.addi v758 v759
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_535 : BitVec 32 := 1#32
  let v761 : BitVec 32 := Scalar.muli v8 c1_i32_535
  let v762 : BitVec 32 := Scalar.addi v760 v761
  v762.toNat
def k0_dev36 (d0 : Dev nD) : Nat :=
  let c0_i32_564 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_563 : BitVec 32 := 4#32
  let v802 : BitVec 32 := Scalar.muli v10 c4_i32_563
  let v803 : BitVec 32 := Scalar.addi c0_i32_564 v802
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_565 : BitVec 32 := 2#32
  let v804 : BitVec 32 := Scalar.muli v5 c2_i32_565
  let v805 : BitVec 32 := Scalar.addi v803 v804
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_566 : BitVec 32 := 1#32
  let v806 : BitVec 32 := Scalar.muli v8 c1_i32_566
  let v807 : BitVec 32 := Scalar.addi v805 v806
  v807.toNat
def k0_dev37 (d0 : Dev nD) : Nat :=
  let c0_i32_574 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_573 : BitVec 32 := 4#32
  let v814 : BitVec 32 := Scalar.muli v2 c4_i32_573
  let v815 : BitVec 32 := Scalar.addi c0_i32_574 v814
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_575 : BitVec 32 := 2#32
  let v816 : BitVec 32 := Scalar.muli v11 c2_i32_575
  let v817 : BitVec 32 := Scalar.addi v815 v816
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_576 : BitVec 32 := 1#32
  let v818 : BitVec 32 := Scalar.muli v8 c1_i32_576
  let v819 : BitVec 32 := Scalar.addi v817 v818
  v819.toNat
def k0_dev38 (d0 : Dev nD) : Nat :=
  let c0_i32_605 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_604 : BitVec 32 := 4#32
  let v859 : BitVec 32 := Scalar.muli v10 c4_i32_604
  let v860 : BitVec 32 := Scalar.addi c0_i32_605 v859
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_606 : BitVec 32 := 2#32
  let v861 : BitVec 32 := Scalar.muli v5 c2_i32_606
  let v862 : BitVec 32 := Scalar.addi v860 v861
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_607 : BitVec 32 := 1#32
  let v863 : BitVec 32 := Scalar.muli v8 c1_i32_607
  let v864 : BitVec 32 := Scalar.addi v862 v863
  v864.toNat
def k0_dev39 (d0 : Dev nD) : Nat :=
  let c0_i32_615 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_614 : BitVec 32 := 4#32
  let v871 : BitVec 32 := Scalar.muli v2 c4_i32_614
  let v872 : BitVec 32 := Scalar.addi c0_i32_615 v871
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_616 : BitVec 32 := 2#32
  let v873 : BitVec 32 := Scalar.muli v11 c2_i32_616
  let v874 : BitVec 32 := Scalar.addi v872 v873
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_617 : BitVec 32 := 1#32
  let v875 : BitVec 32 := Scalar.muli v8 c1_i32_617
  let v876 : BitVec 32 := Scalar.addi v874 v875
  v876.toNat
def k0_dev40 (d0 : Dev nD) : Nat :=
  let c0_i32_646 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_645 : BitVec 32 := 4#32
  let v916 : BitVec 32 := Scalar.muli v10 c4_i32_645
  let v917 : BitVec 32 := Scalar.addi c0_i32_646 v916
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_647 : BitVec 32 := 2#32
  let v918 : BitVec 32 := Scalar.muli v5 c2_i32_647
  let v919 : BitVec 32 := Scalar.addi v917 v918
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_648 : BitVec 32 := 1#32
  let v920 : BitVec 32 := Scalar.muli v8 c1_i32_648
  let v921 : BitVec 32 := Scalar.addi v919 v920
  v921.toNat
def k0_dev41 (d0 : Dev nD) : Nat :=
  let c0_i32_656 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_655 : BitVec 32 := 4#32
  let v928 : BitVec 32 := Scalar.muli v2 c4_i32_655
  let v929 : BitVec 32 := Scalar.addi c0_i32_656 v928
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_657 : BitVec 32 := 2#32
  let v930 : BitVec 32 := Scalar.muli v11 c2_i32_657
  let v931 : BitVec 32 := Scalar.addi v929 v930
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_658 : BitVec 32 := 1#32
  let v932 : BitVec 32 := Scalar.muli v8 c1_i32_658
  let v933 : BitVec 32 := Scalar.addi v931 v932
  v933.toNat
def k0_dev42 (d0 : Dev nD) : Nat :=
  let c0_i32_687 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_686 : BitVec 32 := 4#32
  let v973 : BitVec 32 := Scalar.muli v10 c4_i32_686
  let v974 : BitVec 32 := Scalar.addi c0_i32_687 v973
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_688 : BitVec 32 := 2#32
  let v975 : BitVec 32 := Scalar.muli v5 c2_i32_688
  let v976 : BitVec 32 := Scalar.addi v974 v975
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_689 : BitVec 32 := 1#32
  let v977 : BitVec 32 := Scalar.muli v8 c1_i32_689
  let v978 : BitVec 32 := Scalar.addi v976 v977
  v978.toNat
def k0_dev43 (d0 : Dev nD) : Nat :=
  let c0_i32_697 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_696 : BitVec 32 := 4#32
  let v985 : BitVec 32 := Scalar.muli v2 c4_i32_696
  let v986 : BitVec 32 := Scalar.addi c0_i32_697 v985
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_698 : BitVec 32 := 2#32
  let v987 : BitVec 32 := Scalar.muli v11 c2_i32_698
  let v988 : BitVec 32 := Scalar.addi v986 v987
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_699 : BitVec 32 := 1#32
  let v989 : BitVec 32 := Scalar.muli v8 c1_i32_699
  let v990 : BitVec 32 := Scalar.addi v988 v989
  v990.toNat
def k0_dev44 (d0 : Dev nD) : Nat :=
  let c0_i32_728 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_727 : BitVec 32 := 4#32
  let v1030 : BitVec 32 := Scalar.muli v10 c4_i32_727
  let v1031 : BitVec 32 := Scalar.addi c0_i32_728 v1030
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_729 : BitVec 32 := 2#32
  let v1032 : BitVec 32 := Scalar.muli v5 c2_i32_729
  let v1033 : BitVec 32 := Scalar.addi v1031 v1032
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_730 : BitVec 32 := 1#32
  let v1034 : BitVec 32 := Scalar.muli v8 c1_i32_730
  let v1035 : BitVec 32 := Scalar.addi v1033 v1034
  v1035.toNat
def k0_dev45 (d0 : Dev nD) : Nat :=
  let c0_i32_738 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_737 : BitVec 32 := 4#32
  let v1042 : BitVec 32 := Scalar.muli v2 c4_i32_737
  let v1043 : BitVec 32 := Scalar.addi c0_i32_738 v1042
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_739 : BitVec 32 := 2#32
  let v1044 : BitVec 32 := Scalar.muli v11 c2_i32_739
  let v1045 : BitVec 32 := Scalar.addi v1043 v1044
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_740 : BitVec 32 := 1#32
  let v1046 : BitVec 32 := Scalar.muli v8 c1_i32_740
  let v1047 : BitVec 32 := Scalar.addi v1045 v1046
  v1047.toNat
def k0_dev46 (d0 : Dev nD) : Nat :=
  let c0_i32_769 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_768 : BitVec 32 := 4#32
  let v1087 : BitVec 32 := Scalar.muli v10 c4_i32_768
  let v1088 : BitVec 32 := Scalar.addi c0_i32_769 v1087
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_770 : BitVec 32 := 2#32
  let v1089 : BitVec 32 := Scalar.muli v5 c2_i32_770
  let v1090 : BitVec 32 := Scalar.addi v1088 v1089
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_771 : BitVec 32 := 1#32
  let v1091 : BitVec 32 := Scalar.muli v8 c1_i32_771
  let v1092 : BitVec 32 := Scalar.addi v1090 v1091
  v1092.toNat
def k0_dev47 (d0 : Dev nD) : Nat :=
  let c0_i32_779 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_778 : BitVec 32 := 4#32
  let v1099 : BitVec 32 := Scalar.muli v2 c4_i32_778
  let v1100 : BitVec 32 := Scalar.addi c0_i32_779 v1099
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_780 : BitVec 32 := 2#32
  let v1101 : BitVec 32 := Scalar.muli v11 c2_i32_780
  let v1102 : BitVec 32 := Scalar.addi v1100 v1101
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_781 : BitVec 32 := 1#32
  let v1103 : BitVec 32 := Scalar.muli v8 c1_i32_781
  let v1104 : BitVec 32 := Scalar.addi v1102 v1103
  v1104.toNat
def k0_dev48 (d0 : Dev nD) : Nat :=
  let c0_i32_810 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_809 : BitVec 32 := 4#32
  let v1144 : BitVec 32 := Scalar.muli v10 c4_i32_809
  let v1145 : BitVec 32 := Scalar.addi c0_i32_810 v1144
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_811 : BitVec 32 := 2#32
  let v1146 : BitVec 32 := Scalar.muli v5 c2_i32_811
  let v1147 : BitVec 32 := Scalar.addi v1145 v1146
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_812 : BitVec 32 := 1#32
  let v1148 : BitVec 32 := Scalar.muli v8 c1_i32_812
  let v1149 : BitVec 32 := Scalar.addi v1147 v1148
  v1149.toNat
def k0_dev49 (d0 : Dev nD) : Nat :=
  let c0_i32_820 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_819 : BitVec 32 := 4#32
  let v1156 : BitVec 32 := Scalar.muli v2 c4_i32_819
  let v1157 : BitVec 32 := Scalar.addi c0_i32_820 v1156
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_821 : BitVec 32 := 2#32
  let v1158 : BitVec 32 := Scalar.muli v11 c2_i32_821
  let v1159 : BitVec 32 := Scalar.addi v1157 v1158
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_822 : BitVec 32 := 1#32
  let v1160 : BitVec 32 := Scalar.muli v8 c1_i32_822
  let v1161 : BitVec 32 := Scalar.addi v1159 v1160
  v1161.toNat
def k0_dev50 (d0 : Dev nD) : Nat :=
  let c0_i32_851 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_850 : BitVec 32 := 4#32
  let v1201 : BitVec 32 := Scalar.muli v10 c4_i32_850
  let v1202 : BitVec 32 := Scalar.addi c0_i32_851 v1201
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_852 : BitVec 32 := 2#32
  let v1203 : BitVec 32 := Scalar.muli v5 c2_i32_852
  let v1204 : BitVec 32 := Scalar.addi v1202 v1203
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_853 : BitVec 32 := 1#32
  let v1205 : BitVec 32 := Scalar.muli v8 c1_i32_853
  let v1206 : BitVec 32 := Scalar.addi v1204 v1205
  v1206.toNat
def k0_dev51 (d0 : Dev nD) : Nat :=
  let c0_i32_861 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_860 : BitVec 32 := 4#32
  let v1213 : BitVec 32 := Scalar.muli v2 c4_i32_860
  let v1214 : BitVec 32 := Scalar.addi c0_i32_861 v1213
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_862 : BitVec 32 := 2#32
  let v1215 : BitVec 32 := Scalar.muli v11 c2_i32_862
  let v1216 : BitVec 32 := Scalar.addi v1214 v1215
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_863 : BitVec 32 := 1#32
  let v1217 : BitVec 32 := Scalar.muli v8 c1_i32_863
  let v1218 : BitVec 32 := Scalar.addi v1216 v1217
  v1218.toNat
def k0_off4 (d0 : Dev nD) (c0_i32_890 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c512_i32_889 : BitVec 32 := 512#32
  let v1258 : BitVec 32 := Scalar.muli v16 c512_i32_889
  let v1259 : BitVec 32 := Scalar.addi v1258 c0_i32_890
  let v1260 : Index := Scalar.indexCast v1259
  let c0_891 : Index := 0#32
  ![v1260.toNat, 0]
def k0_dev52 (d0 : Dev nD) : Nat :=
  let c0_i32_913 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_912 : BitVec 32 := 4#32
  let v1291 : BitVec 32 := Scalar.muli v10 c4_i32_912
  let v1292 : BitVec 32 := Scalar.addi c0_i32_913 v1291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_914 : BitVec 32 := 2#32
  let v1293 : BitVec 32 := Scalar.muli v5 c2_i32_914
  let v1294 : BitVec 32 := Scalar.addi v1292 v1293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_915 : BitVec 32 := 1#32
  let v1295 : BitVec 32 := Scalar.muli v8 c1_i32_915
  let v1296 : BitVec 32 := Scalar.addi v1294 v1295
  v1296.toNat
def k0_off5 (d0 : Dev nD) (c0_i32_921 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c512_i32_920 : BitVec 32 := 512#32
  let v1303 : BitVec 32 := Scalar.muli v19 c512_i32_920
  let v1304 : BitVec 32 := Scalar.addi v1303 c0_i32_921
  let v1305 : Index := Scalar.indexCast v1304
  let c0_922 : Index := 0#32
  ![v1305.toNat, 0]
def k0_dev53 (d0 : Dev nD) : Nat :=
  let c0_i32_965 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_964 : BitVec 32 := 4#32
  let v1369 : BitVec 32 := Scalar.muli v10 c4_i32_964
  let v1370 : BitVec 32 := Scalar.addi c0_i32_965 v1369
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_966 : BitVec 32 := 2#32
  let v1371 : BitVec 32 := Scalar.muli v5 c2_i32_966
  let v1372 : BitVec 32 := Scalar.addi v1370 v1371
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_967 : BitVec 32 := 1#32
  let v1373 : BitVec 32 := Scalar.muli v8 c1_i32_967
  let v1374 : BitVec 32 := Scalar.addi v1372 v1373
  v1374.toNat
def k0_dev54 (d0 : Dev nD) : Nat :=
  let c0_i32_1017 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1016 : BitVec 32 := 4#32
  let v1447 : BitVec 32 := Scalar.muli v10 c4_i32_1016
  let v1448 : BitVec 32 := Scalar.addi c0_i32_1017 v1447
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1018 : BitVec 32 := 2#32
  let v1449 : BitVec 32 := Scalar.muli v5 c2_i32_1018
  let v1450 : BitVec 32 := Scalar.addi v1448 v1449
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1019 : BitVec 32 := 1#32
  let v1451 : BitVec 32 := Scalar.muli v8 c1_i32_1019
  let v1452 : BitVec 32 := Scalar.addi v1450 v1451
  v1452.toNat
def k0_dev55 (d0 : Dev nD) : Nat :=
  let c0_i32_1069 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1068 : BitVec 32 := 4#32
  let v1525 : BitVec 32 := Scalar.muli v10 c4_i32_1068
  let v1526 : BitVec 32 := Scalar.addi c0_i32_1069 v1525
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1070 : BitVec 32 := 2#32
  let v1527 : BitVec 32 := Scalar.muli v5 c2_i32_1070
  let v1528 : BitVec 32 := Scalar.addi v1526 v1527
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1071 : BitVec 32 := 1#32
  let v1529 : BitVec 32 := Scalar.muli v8 c1_i32_1071
  let v1530 : BitVec 32 := Scalar.addi v1528 v1529
  v1530.toNat
def k0_dev56 (d0 : Dev nD) : Nat :=
  let c0_i32_1121 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1120 : BitVec 32 := 4#32
  let v1603 : BitVec 32 := Scalar.muli v10 c4_i32_1120
  let v1604 : BitVec 32 := Scalar.addi c0_i32_1121 v1603
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1122 : BitVec 32 := 2#32
  let v1605 : BitVec 32 := Scalar.muli v5 c2_i32_1122
  let v1606 : BitVec 32 := Scalar.addi v1604 v1605
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1123 : BitVec 32 := 1#32
  let v1607 : BitVec 32 := Scalar.muli v8 c1_i32_1123
  let v1608 : BitVec 32 := Scalar.addi v1606 v1607
  v1608.toNat
def k0_dev57 (d0 : Dev nD) : Nat :=
  let c0_i32_1173 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1172 : BitVec 32 := 4#32
  let v1681 : BitVec 32 := Scalar.muli v10 c4_i32_1172
  let v1682 : BitVec 32 := Scalar.addi c0_i32_1173 v1681
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1174 : BitVec 32 := 2#32
  let v1683 : BitVec 32 := Scalar.muli v5 c2_i32_1174
  let v1684 : BitVec 32 := Scalar.addi v1682 v1683
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1175 : BitVec 32 := 1#32
  let v1685 : BitVec 32 := Scalar.muli v8 c1_i32_1175
  let v1686 : BitVec 32 := Scalar.addi v1684 v1685
  v1686.toNat
def k0_dev58 (d0 : Dev nD) : Nat :=
  let c0_i32_1225 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1224 : BitVec 32 := 4#32
  let v1759 : BitVec 32 := Scalar.muli v10 c4_i32_1224
  let v1760 : BitVec 32 := Scalar.addi c0_i32_1225 v1759
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1226 : BitVec 32 := 2#32
  let v1761 : BitVec 32 := Scalar.muli v5 c2_i32_1226
  let v1762 : BitVec 32 := Scalar.addi v1760 v1761
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1227 : BitVec 32 := 1#32
  let v1763 : BitVec 32 := Scalar.muli v8 c1_i32_1227
  let v1764 : BitVec 32 := Scalar.addi v1762 v1763
  v1764.toNat
def k0_dev59 (d0 : Dev nD) : Nat :=
  let c0_i32_1277 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_1276 : BitVec 32 := 4#32
  let v1837 : BitVec 32 := Scalar.muli v10 c4_i32_1276
  let v1838 : BitVec 32 := Scalar.addi c0_i32_1277 v1837
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1278 : BitVec 32 := 2#32
  let v1839 : BitVec 32 := Scalar.muli v5 c2_i32_1278
  let v1840 : BitVec 32 := Scalar.addi v1838 v1839
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1279 : BitVec 32 := 1#32
  let v1841 : BitVec 32 := Scalar.muli v8 c1_i32_1279
  let v1842 : BitVec 32 := Scalar.addi v1840 v1841
  v1842.toNat
def k0_dev60 (d0 : Dev nD) : Nat :=
  let c0_i32_1308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1307 : BitVec 32 := 4#32
  let v1882 : BitVec 32 := Scalar.muli v2 c4_i32_1307
  let v1883 : BitVec 32 := Scalar.addi c0_i32_1308 v1882
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1309 : BitVec 32 := 2#32
  let v1884 : BitVec 32 := Scalar.muli v11 c2_i32_1309
  let v1885 : BitVec 32 := Scalar.addi v1883 v1884
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1310 : BitVec 32 := 1#32
  let v1886 : BitVec 32 := Scalar.muli v8 c1_i32_1310
  let v1887 : BitVec 32 := Scalar.addi v1885 v1886
  v1887.toNat
def k0_dev61 (d0 : Dev nD) : Nat :=
  let c0_i32_1360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1359 : BitVec 32 := 4#32
  let v1960 : BitVec 32 := Scalar.muli v2 c4_i32_1359
  let v1961 : BitVec 32 := Scalar.addi c0_i32_1360 v1960
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1361 : BitVec 32 := 2#32
  let v1962 : BitVec 32 := Scalar.muli v11 c2_i32_1361
  let v1963 : BitVec 32 := Scalar.addi v1961 v1962
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1362 : BitVec 32 := 1#32
  let v1964 : BitVec 32 := Scalar.muli v8 c1_i32_1362
  let v1965 : BitVec 32 := Scalar.addi v1963 v1964
  v1965.toNat
def k0_dev62 (d0 : Dev nD) : Nat :=
  let c0_i32_1412 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1411 : BitVec 32 := 4#32
  let v2038 : BitVec 32 := Scalar.muli v2 c4_i32_1411
  let v2039 : BitVec 32 := Scalar.addi c0_i32_1412 v2038
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1413 : BitVec 32 := 2#32
  let v2040 : BitVec 32 := Scalar.muli v11 c2_i32_1413
  let v2041 : BitVec 32 := Scalar.addi v2039 v2040
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1414 : BitVec 32 := 1#32
  let v2042 : BitVec 32 := Scalar.muli v8 c1_i32_1414
  let v2043 : BitVec 32 := Scalar.addi v2041 v2042
  v2043.toNat
def k0_dev63 (d0 : Dev nD) : Nat :=
  let c0_i32_1464 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1463 : BitVec 32 := 4#32
  let v2116 : BitVec 32 := Scalar.muli v2 c4_i32_1463
  let v2117 : BitVec 32 := Scalar.addi c0_i32_1464 v2116
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1465 : BitVec 32 := 2#32
  let v2118 : BitVec 32 := Scalar.muli v11 c2_i32_1465
  let v2119 : BitVec 32 := Scalar.addi v2117 v2118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1466 : BitVec 32 := 1#32
  let v2120 : BitVec 32 := Scalar.muli v8 c1_i32_1466
  let v2121 : BitVec 32 := Scalar.addi v2119 v2120
  v2121.toNat
def k0_dev64 (d0 : Dev nD) : Nat :=
  let c0_i32_1516 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1515 : BitVec 32 := 4#32
  let v2194 : BitVec 32 := Scalar.muli v2 c4_i32_1515
  let v2195 : BitVec 32 := Scalar.addi c0_i32_1516 v2194
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1517 : BitVec 32 := 2#32
  let v2196 : BitVec 32 := Scalar.muli v11 c2_i32_1517
  let v2197 : BitVec 32 := Scalar.addi v2195 v2196
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1518 : BitVec 32 := 1#32
  let v2198 : BitVec 32 := Scalar.muli v8 c1_i32_1518
  let v2199 : BitVec 32 := Scalar.addi v2197 v2198
  v2199.toNat
def k0_dev65 (d0 : Dev nD) : Nat :=
  let c0_i32_1568 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1567 : BitVec 32 := 4#32
  let v2272 : BitVec 32 := Scalar.muli v2 c4_i32_1567
  let v2273 : BitVec 32 := Scalar.addi c0_i32_1568 v2272
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1569 : BitVec 32 := 2#32
  let v2274 : BitVec 32 := Scalar.muli v11 c2_i32_1569
  let v2275 : BitVec 32 := Scalar.addi v2273 v2274
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1570 : BitVec 32 := 1#32
  let v2276 : BitVec 32 := Scalar.muli v8 c1_i32_1570
  let v2277 : BitVec 32 := Scalar.addi v2275 v2276
  v2277.toNat
def k0_dev66 (d0 : Dev nD) : Nat :=
  let c0_i32_1620 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1619 : BitVec 32 := 4#32
  let v2350 : BitVec 32 := Scalar.muli v2 c4_i32_1619
  let v2351 : BitVec 32 := Scalar.addi c0_i32_1620 v2350
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1621 : BitVec 32 := 2#32
  let v2352 : BitVec 32 := Scalar.muli v11 c2_i32_1621
  let v2353 : BitVec 32 := Scalar.addi v2351 v2352
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1622 : BitVec 32 := 1#32
  let v2354 : BitVec 32 := Scalar.muli v8 c1_i32_1622
  let v2355 : BitVec 32 := Scalar.addi v2353 v2354
  v2355.toNat
def k0_dev67 (d0 : Dev nD) : Nat :=
  let c0_i32_1672 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1671 : BitVec 32 := 4#32
  let v2428 : BitVec 32 := Scalar.muli v2 c4_i32_1671
  let v2429 : BitVec 32 := Scalar.addi c0_i32_1672 v2428
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_1673 : BitVec 32 := 2#32
  let v2430 : BitVec 32 := Scalar.muli v11 c2_i32_1673
  let v2431 : BitVec 32 := Scalar.addi v2429 v2430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1674 : BitVec 32 := 1#32
  let v2432 : BitVec 32 := Scalar.muli v8 c1_i32_1674
  let v2433 : BitVec 32 := Scalar.addi v2431 v2432
  v2433.toNat
def k0_off6 (d0 : Dev nD) (c0_i32_1722 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c512_i32_1721 : BitVec 32 := 512#32
  let v2506 : BitVec 32 := Scalar.muli v23 c512_i32_1721
  let v2507 : BitVec 32 := Scalar.addi v2506 c0_i32_1722
  let v2508 : Index := Scalar.indexCast v2507
  let c0_1723 : Index := 0#32
  ![v2508.toNat, 0]
abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Pieces.lean ====
/-
The kernel body as a chain of small pieces, each written once over a chunk number. The printed body has
the same sixteen-chunk loops written out; `body_eq` says the two texts are one program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.Proof.K

open Idealize.ShloMosaic Idealize.ShloMosaic.TcCoe Idealize.SL Idealize.SL.Sem
open Cert.KernelIdeal Cert.KernelIdeal.Gen

variable {F : FTy → Type} [FloatOps F]

/-! ## The buffers -/

/-- This core's half of the partial sums (in HBM). -/
abbrev mP : Memref sig .tc .hbm S1x4096x2048 .f32 := Memref.whole main_arg0
/-- Gamma, staged. -/
abbrev mG : Memref sig .tc .vmem S1x2048 .f32 := Memref.whole cc0_stg0_0
/-- The result, staged. -/
abbrev mO : Memref sig .tc .vmem S2048x2048 .f32 := Memref.whole cc0_stg1_0
/-- The core's own half of its partial sums. -/
abbrev mL : Memref sig .tc .vmem S2048x2048 .f32 := Memref.whole cc0_scratch0
/-- The quarter of the partner's half that this core sends. -/
abbrev mS : Memref sig .tc .vmem S512x2048 .f32 := Memref.whole cc0_scratch1
/-- The narrowed chunks on their way to the partner. -/
abbrev mZs : Memref sig .tc .vmem S512x2048 .fp8e4m3 := Memref.whole cc0_scratch2
/-- Where the partner's chunks land. -/
abbrev mZ : Memref sig .tc .vmem S512x2048 .fp8e4m3 := Memref.whole cc0_scratch3
/-- Where the chunks of the neighbour along x land. -/
abbrev mX : Memref sig .tc .vmem S512x2048 .fp8e4m3 := Memref.whole cc0_scratch4
/-- Where the chunks of the neighbour along y land. -/
abbrev mY : Memref sig .tc .vmem S512x2048 .fp8e4m3 := Memref.whole cc0_scratch5
/-- Where the chunks of the diagonal neighbour land. -/
abbrev mD : Memref sig .tc .vmem S512x2048 .fp8e4m3 := Memref.whole cc0_scratch6

/-! ## Chunks -/

theorem inbC (r : Fin 16) : ∀ a, (![32 * r.val, 0] : Fin 2 → Nat) a + S32x2048.size a ≤ S512x2048.size a := by
  revert r; decide
theorem inbS (r : Fin 16) : ∀ a, (![r.val] : Fin 1 → Nat) a + S1.size a ≤ S16.size a := by
  revert r; decide
theorem inbE (r : Fin 8) : ∀ a, (![r.val] : Fin 1 → Nat) a + S1.size a ≤ S8.size a := by
  revert r; decide

/-- Rows `32 r … 32 r + 31` of a scratch of 512 rows. -/
abbrev rC (r : Fin 16) : Rect S512x2048 :=
  Rect.unit (s := S512x2048) ![32 * r.val, 0] S32x2048.size (inbC r)

theorem packC (r : Fin 16) : (rC r).PackedRows (EltTy.packing .fp8e4m3) := by revert r; decide
theorem wordC (r : Fin 16) : (rC r).WholeWords (EltTy.packing .fp8e4m3) := by revert r; decide

/-- Chunk `r` of an fp8 scratch. -/
abbrev cut (M : Memref sig .tc .vmem S512x2048 .fp8e4m3) (r : Fin 16) : Memref sig .tc .vmem S32x2048 .fp8e4m3 :=
  M.slice (rC r) (fun _ => rfl)

/-- Semaphore `r` of an array of sixteen. -/
abbrev at16 (S : DmaSems sig S16) (r : Fin 16) : DmaSem sig :=
  ((S.slice (Rect.unit (s := S16) ![r.val] S1.size (inbS r))).squeeze S_ squeezes_S1_S_).sem
/-- Semaphore `r` of an array of eight. -/
abbrev at8 (S : DmaSems sig S8) (r : Fin 8) : DmaSem sig :=
  ((S.slice (Rect.unit (s := S8) ![r.val] S1.size (inbE r))).squeeze S_ squeezes_S1_S_).sem

/-- The first eight chunks, which travel x after y. -/
abbrev lo (r : Fin 8) : Fin 16 := ⟨r.val, Nat.lt_of_lt_of_le r.isLt (by decide)⟩
/-- The last eight chunks, which travel y after x. -/
abbrev hi (r : Fin 8) : Fin 16 := ⟨r.val + 8, Nat.add_lt_add_right r.isLt 8⟩

/-! ## Devices -/

/-- The partner along z. -/
abbrev nz (d : Dev nD) : Dev nD := ⟨k0_dev1 d, k0_dev1_lt d⟩
/-- The neighbour along x. -/
abbrev nx (d : Dev nD) : Dev nD := ⟨k0_dev2 d, k0_dev2_lt d⟩
/-- The neighbour along y. -/
abbrev ny (d : Dev nD) : Dev nD := ⟨k0_dev3 d, k0_dev3_lt d⟩

/-! ## What is written -/

/-- One chunk, narrowed. -/
def payZ (v : Vec F S32x2048 .f32) : FVec F S32x2048 .fp8e4m3 :=
  shapeCast S32x2048 (truncf .fp8e4m3 v bitsLt_fp8e4m3_f32) shapeCasts_S32x2048_S32x2048

/-- One chunk of the result: the two halves added, divided by the root mean square of the row, times gamma. -/
def payR (a : Vec F S32x2048 .f32) (b : Vec F S32x2048 .fp8e4m3) (g : Vec F S1x2048 .f32) : FVec F S32x2048 .f32 :=
  mulf (mulf (addf a (extf .f32 b bitsLt_fp8e4m3_f32))
    (broadcastTo S32x2048 (rsqrt (addf (divf (shapeCast S32x1
      (multiReduction .add [1] S32 (mulf (addf a (extf .f32 b bitsLt_fp8e4m3_f32)) (addf a (extf .f32 b bitsLt_fp8e4m3_f32)))
        0x00000000#32 reduces_S32x2048_S32 (.inl rfl) rfl) shapeCasts_S32_S32x1)
      (broadcast S32x1 (Scalar.ofBits .f32 0x45000000#32))) (broadcast S32x1 (Scalar.ofBits .f32 0x358637BD#32))))
      broadcasts_S32x1_S32x2048))
    (broadcastTo S32x2048 (shapeCast S1x2048 g shapeCasts_S1x2048_S1x2048) broadcasts_S1x2048_S32x2048)

/-! ## The pieces -/

/-- A program of the kernel. -/
abbrev P (F : FTy → Type) [FloatOps F] : Type 1 := Prog (TpuEff nD τ sig (Elt F) Λ₀ .tc) PUnit

/-- The barrier semaphore. -/
abbrev barS : Sem sig := (SemArray.scalar (sig.barrier 0 rfl) : Sems sig S_).sem
/-- The two semaphores of the local copies. -/
abbrev lcS0 : DmaSem sig := ((cc0_scratch7.slice (Rect.unit (s := S2) ![0] S1.size inb_S2_S1_0)).squeeze S_ squeezes_S1_S_).sem
abbrev lcS1 : DmaSem sig := ((cc0_scratch7.slice (Rect.unit (s := S2) ![1] S1.size inb_S2_S1_1)).squeeze S_ squeezes_S1_S_).sem

/-- The quarter of the partial sums that is staged to be sent. -/
abbrev srcS (d : Dev nD) : Memref sig .tc .hbm S512x2048 .f32 :=
  (mP.slice (Rect.unit (s := S1x4096x2048) (k0_off1 d) S1x512x2048.size (k0_off1_inb d)) (fun _ => rfl)).squeeze S512x2048 squeezes_S1x512x2048_S512x2048
/-- The half of the partial sums that the core keeps. -/
abbrev srcL (d : Dev nD) : Memref sig .tc .hbm S2048x2048 .f32 :=
  (mP.slice (Rect.unit (s := S1x4096x2048) (k0_off2 d) S1x2048x2048.size (k0_off2_inb d)) (fun _ => rfl)).squeeze S2048x2048 squeezes_S1x2048x2048_S2048x2048

/-- The barrier with the three neighbours. -/
def pBar (d : Dev nD) : P F := do
  semSignalWord (nz d) barS 1#32
  semSignalWord (nx d) barS 1#32
  semSignalWord (ny d) barS 1#32
  semWaitWord barS 3#32

/-- Both local copies, and the wait on the first. -/
def pLoc (d : Dev nD) : P F := do
  Prog.lift (.enqueueDma (srcS d) (.here mS) (.dma lcS0) ((View.wordExact_bits rfl).reshape _ _) (Memref.isWhole_whole _).wordExact ⟨Or.inl rfl, trivial⟩)
  Prog.lift (.enqueueDma (srcL d) (.here mL) (.dma lcS1) ((View.wordExact_bits rfl).reshape _ _) (Memref.isWhole_whole _).wordExact ⟨Or.inl rfl, trivial⟩)
  Prog.lift (.waitDma2 lcS0 (srcS d) mS ((View.wordExact_bits rfl).reshape _ _) (Memref.isWhole_whole _).wordExact)

/-- The wait on the second local copy. -/
def pLoc2 (d : Dev nD) : P F :=
  Prog.lift (.waitDma2 lcS1 (srcL d) mL ((View.wordExact_bits rfl).reshape _ _) (Memref.isWhole_whole _).wordExact)

/-- Send chunk `r` of `A` into chunk `r` of `B` on device `e`. -/
def pSend (A B : Memref sig .tc .vmem S512x2048 .fp8e4m3) (hA : A.IsWhole) (hB : B.IsWhole) (e : Dev nD) (r : Fin 16)
    (s t : DmaSem sig) : P F :=
  Prog.lift (.enqueueDma (cut A r) (.remote (Dev.tc e) (cut B r) (.dma s)) (.dma t)
    (hA.wordExact_slice rfl _ (wordC r)) (hB.wordExact_slice rfl _ (wordC r)) ⟨⟨rfl, Or.inl rfl⟩, trivial⟩)

/-- Wait on semaphore `s` for the bytes of one chunk. -/
def pWait (A B : Memref sig .tc .vmem S512x2048 .fp8e4m3) (hA : A.IsWhole) (hB : B.IsWhole) (r : Fin 16) (s : DmaSem sig) : P F :=
  Prog.lift (.waitDma2 s (cut A r) (cut B r) (hA.wordExact_slice rfl _ (wordC r)) (hB.wordExact_slice rfl _ (wordC r)))

/-- Narrow chunk `r` of the staged quarter into the send buffer. -/
def pNarrow (r : Fin 16) : P F := do
  let v : Vec F S32x2048 .f32 ← Prog.lift (.load mS (rC r).toLoadRect (View.loadsAt_vmem h_S32x2048))
  let _w : Vec F S32x2048 .fp8e4m3 ← Prog.lift (.load mZs (rC r).toLoadRect (View.loadsAt_vmem h_S32x2048))
  Prog.lift (.store mZs (rC r) (payZ v) Finset.univ
    (View.stores_vmem h_S32x2048 ((Memref.isWhole_whole _).storeExact_slice rfl _ (packC r)) (fun _ => rfl)) (.inl rfl))

/-- Write one chunk of the result at row offset `o`, from chunk `r` of the landing buffer `A`. -/
def pOut (A : Memref sig .tc .vmem S512x2048 .fp8e4m3) (r : Fin 16) (o : Fin 2 → Nat)
    (ho : ∀ a, o a + S32x2048.size a ≤ S2048x2048.size a) : P F := do
  let v : Vec F S32x2048 .f32 ← Prog.lift (.load mL (Rect.unit (s := S2048x2048) o S32x2048.size ho).toLoadRect (View.loadsAt_vmem h_S32x2048))
  let w : Vec F S32x2048 .fp8e4m3 ← Prog.lift (.load A (rC r).toLoadRect (View.loadsAt_vmem h_S32x2048))
  let g : Vec F S1x2048 .f32 ← Prog.lift (.load mG (Rect.unit (s := S1x2048) ![0, 0] S1x2048.size inb_S1x2048_S1x2048_0_0).toLoadRect (View.loadsAt_vmem h_S1x2048))
  let _u : Vec F S32x2048 .f32 ← Prog.lift (.load mO (Rect.unit (s := S2048x2048) o S32x2048.size ho).toLoadRect (View.loadsAt_vmem h_S32x2048))
  Prog.lift (.store mO (Rect.unit (s := S2048x2048) o S32x2048.size ho) (payR v w g) Finset.univ (View.stores_vmem_bits_univ h_S32x2048 rfl) (.inl rfl))

abbrev wZs : (mZs).IsWhole := Memref.isWhole_whole _
abbrev wZ : (mZ).IsWhole := Memref.isWhole_whole _
abbrev wX : (mX).IsWhole := Memref.isWhole_whole _
abbrev wY : (mY).IsWhole := Memref.isWhole_whole _
abbrev wD : (mD).IsWhole := Memref.isWhole_whole _

/-- Row offsets of chunk `r` of the four quarters: the own one, x's, y's and the diagonal's. -/
abbrev o3 (d : Dev nD) (r : Fin 16) : Fin 2 → Nat := k0_off3 d (BitVec.ofNat 32 (32 * r.val))
abbrev o4 (d : Dev nD) (r : Fin 16) : Fin 2 → Nat := k0_off4 d (BitVec.ofNat 32 (32 * r.val))
abbrev o5 (d : Dev nD) (r : Fin 16) : Fin 2 → Nat := k0_off5 d (BitVec.ofNat 32 (32 * r.val))
abbrev o6 (d : Dev nD) (r : Fin 16) : Fin 2 → Nat := k0_off6 d (BitVec.ofNat 32 (32 * r.val))

/-- One chunk to the partner. -/
def gZ (d : Dev nD) (r : Fin 16) : List (P F) :=
  [pNarrow r, pSend mZs mZ wZs wZ (nz d) r (at16 cc0_scratch8 r) (at16 cc0_scratch9 r)]

/-- One chunk from the partner: forwarded to both neighbours and used. -/
def gF (d : Dev nD) (r : Fin 16) : List (P F) :=
  [pWait mZs mZ wZs wZ r (at16 cc0_scratch9 r),
   pSend mZ mX wZ wX (nx d) r (at16 cc0_scratch10 r) (at16 cc0_scratch11 r),
   pSend mZ mY wZ wY (ny d) r (at16 cc0_scratch12 r) (at16 cc0_scratch13 r),
   pOut mZ r (o3 d r) (k0_off3_inb d r)]

/-- A chunk of the first eight from both neighbours; y's travels on along x. -/
def gA (d : Dev nD) (k : Fin 8) : List (P F) :=
  [pWait mZ mX wZ wX (lo k) (at16 cc0_scratch11 (lo k)),
   pOut mX (lo k) (o4 d (lo k)) (k0_off4_inb d (lo k)),
   pWait mZ mY wZ wY (lo k) (at16 cc0_scratch13 (lo k)),
   pSend mY mD wY wD (nx d) (lo k) (at8 cc0_scratch14 k) (at16 cc0_scratch16 (lo k)),
   pOut mY (lo k) (o5 d (lo k)) (k0_off5_inb d (lo k))]

/-- A chunk of the last eight from both neighbours; x's travels on along y. -/
def gB (d : Dev nD) (k : Fin 8) : List (P F) :=
  [pWait mZ mX wZ wX (hi k) (at16 cc0_scratch11 (hi k)),
   pSend mX mD wX wD (ny d) (hi k) (at8 cc0_scratch15 k) (at16 cc0_scratch16 (hi k)),
   pOut mX (hi k) (o4 d (hi k)) (k0_off4_inb d (hi k)),
   pWait mZ mY wZ wY (hi k) (at16 cc0_scratch13 (hi k)),
   pOut mY (hi k) (o5 d (hi k)) (k0_off5_inb d (hi k))]

/-- A chunk from the diagonal. -/
def gD (d : Dev nD) (r : Fin 16) : List (P F) :=
  [pWait mZ mD wZ wD r (at16 cc0_scratch16 r), pOut mD r (o6 d r) (k0_off6_inb d r)]

/-- The waits on the own sends. -/
def gWz (r : Fin 16) : List (P F) := [pWait mZ mZs wZ wZs r (at16 cc0_scratch8 r)]
def gWf (r : Fin 16) : List (P F) :=
  [pWait mX mZ wX wZ r (at16 cc0_scratch10 r), pWait mY mZ wY wZ r (at16 cc0_scratch12 r)]
def gWy (k : Fin 8) : List (P F) := [pWait mD mY wD wY (lo k) (at8 cc0_scratch14 k)]
def gWx (k : Fin 8) : List (P F) := [pWait mD mX wD wX (hi k) (at8 cc0_scratch15 k)]

/-- All chunks in order. -/
def all16 : List (Fin 16) := [0, 1, 2, 3, 4, 5, 6, 7, 8, 9, 10, 11, 12, 13, 14, 15]
def all8 : List (Fin 8) := [0, 1, 2, 3, 4, 5, 6, 7]

/-- The pieces of the body, in order. -/
def pieces (d : Dev nD) : List (P F) :=
  [pBar d, pLoc d] ++ all16.flatMap (gZ d) ++ [pLoc2 d] ++ all16.flatMap (gF d)
    ++ all8.flatMap (gA d) ++ all8.flatMap (gB d) ++ all16.flatMap (gD d)
    ++ all16.flatMap gWz ++ all16.flatMap gWf ++ all8.flatMap gWy ++ all8.flatMap gWx

/-- The body. -/
def kbody : P F := Prog.lift .deviceId >>= fun d => Pipeline.chain (pieces d)

theorem N_one : cfg0.N = 1 := by decide

/-- The body at the grid's only point. -/
theorem body_eq0 : bodyAt0 (F := F) ⟨0, by rw [N_one]; exact Nat.one_pos⟩ = kbody := by
  chain_rfl

/-- The grid has one point. -/
theorem point_eq (t : Fin cfg0.N) : t = ⟨0, by rw [N_one]; exact Nat.one_pos⟩ := by
  obtain ⟨t, ht⟩ := t
  have := N_one
  exact Fin.ext (by simp only; omega)

/-- The printed body is the chain of pieces. -/
theorem body_eq (t : Fin cfg0.N) : bodyAt0 (F := F) t = kbody := by
  rw [point_eq t]
  exact body_eq0

end Cert.Proof.K

end
-- ==== Proof.Vals.lean ====
/-
What the buffers hold, as functions of the partial sums and of gamma: the staged quarter, its narrowing, the half a core
keeps, the result. With it how the scratches and the result divide into chunks of 32 rows.
-/
module

public import proofs.«01_k».proof.Proof.Pieces
public import Idealize.ShloMosaic.Lib.Pipeline.Value

@[expose] public section

noncomputable section

namespace Cert.Proof.K

open Idealize.ShloMosaic Idealize.ShloMosaic.TcCoe Idealize.SL Idealize.SL.Sem
open Cert.KernelIdeal Cert.KernelIdeal.Gen

variable {F : FTy → Type} [FloatOps F]

/-! ## Contents -/

variable (A : Dev nD → main_arg0.ty.Contents (Elt F)) (G : Dev nD → cc0_stg0_0.ty.Contents (Elt F))

/-- The quarter core `e` stages: the quarter of its partner's half that the partner is to finish first. -/
def stageC (e : Dev nD) : Vec F S512x2048 .f32 := (srcS e).view.read (Elt F) (A e)

/-- The same, narrowed: what core `e` sends its partner. -/
def cZ (e : Dev nD) : Vec F S512x2048 .fp8e4m3 := truncf (F := F) .fp8e4m3 (stageC A e : FVec F S512x2048 .f32) bitsLt_fp8e4m3_f32

/-- The half core `c` keeps. -/
def lC (c : Dev nD) : Vec F S2048x2048 .f32 := (srcL c).view.read (Elt F) (A c)

/-- The device whose narrowed quarter completes quarter `s` of core `c`'s half: the partner of the core
    whose place in the square is `s`. -/
def qd (c : Dev nD) (s : Fin 4) : Dev nD := nz ⟨2 * s.val + c.val % 2, by show _ < 8; omega⟩

/-- Rows `32 b …` of the result, `b` below 64. -/
theorem inbO (b : Fin 64) : ∀ a, (![32 * b.val, 0] : Fin 2 → Nat) a + S32x2048.size a ≤ S2048x2048.size a := by
  revert b; decide

abbrev rO (b : Fin 64) : Rect S2048x2048 := Rect.unit (s := S2048x2048) ![32 * b.val, 0] S32x2048.size (inbO b)

/-- The block of chunk `r` of quarter `s`. -/
def blk (s : Fin 4) (r : Fin 16) : Fin 64 := ⟨16 * s.val + r.val, by omega⟩

/-- Chunk `r` of quarter `s` of the result of core `c`. -/
def outN (c : Dev nD) (s : Fin 4) (r : Fin 16) : Vec F S32x2048 .f32 :=
  payR (fun j => lC A c ((rO (blk s r)).emb j)) (fun j => cZ A (qd c s) ((rC r).emb j)) (G c)

/-- The result of core `c`. -/
def tgt (c : Dev nD) : Vec F S2048x2048 .f32 := fun i =>
  outN A G c ⟨(i 0).val / 512, by have := (i 0).isLt; simp only [S2048x2048, Matrix.cons_val_zero] at this; omega⟩
    ⟨(i 0).val % 512 / 32, by omega⟩
    (fun a => match a with
      | 0 => ⟨(i 0).val % 32, by simp only [S32x2048, Matrix.cons_val_zero]; omega⟩
      | 1 => ⟨(i 1).val, (i 1).isLt⟩)

/-- A block of the result is the normalisation of its chunk. -/
theorem tgt_read (c : Dev nD) (s : Fin 4) (r : Fin 16) :
    (fun j => tgt A G c ((rO (blk s r)).emb j)) = outN A G c s r := by
  funext j
  have h0 : ((rO (blk s r)).emb j 0).val = 32 * (blk s r).val + (j 0).val := by
    simp [rO]
  have h1 : ((rO (blk s r)).emb j 1).val = (j 1).val := by
    simp [rO]
  have hj := (j 0).isLt
  have hj' : (j 0).val < 32 := hj
  rw [show (blk s r).val = 16 * s.val + r.val from rfl] at h0
  unfold tgt
  have e1 : (⟨((rO (blk s r)).emb j 0).val / 512, by have := ((rO (blk s r)).emb j 0).isLt; simp only [S2048x2048, Matrix.cons_val_zero] at this; omega⟩ : Fin 4) = s :=
    Fin.ext (by simp only [h0]; omega)
  have e2 : (⟨((rO (blk s r)).emb j 0).val % 512 / 32, by omega⟩ : Fin 16) = r :=
    Fin.ext (by simp only [h0]; omega)
  rw [e1, e2]
  congr 1
  funext a
  match a with
  | 0 => exact Fin.ext (by simp only [h0]; omega)
  | 1 => exact Fin.ext h1

/-- Narrowing a chunk is the chunk of the narrowed. -/
theorem payZ_eq (e : Dev nD) (r : Fin 16) :
    payZ (fun j => stageC A e ((rC r).emb j)) = fun j => cZ A e ((rC r).emb j) := by
  unfold payZ
  rw [shapeCast_self]
  rfl

/-! ## Writing what is already the wanted contents -/

theorem write_agrees {κ : Kind} {sp : Space} {s : Shape} {e : EltTy} {Val : EltTy → Type} (v : View sig κ sp s e) (f g : v.ty.Contents Val)
    (w : s.Idx → Val e) (h : v.read Val g = w) : ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

/-! ## The chunks divide a scratch, the blocks the result -/

/-- Different chunks do not overlap. -/
theorem rC_disj (r r' : Fin 16) (h : r ≠ r') : Disjoint (rC r).set (rC r').set := by
  refine Rect.unit_disjoint 0 ?_
  have : r.val ≠ r'.val := fun e => h (Fin.ext e)
  show 32 * r.val + 32 ≤ 32 * r'.val ∨ 32 * r'.val + 32 ≤ 32 * r.val
  omega

/-- The chunks cover a scratch. -/
theorem rC_cover : (Finset.univ : Finset (Fin 16)).biUnion (fun r => (rC r).set) = Finset.univ := by
  ext i
  simp only [Finset.mem_biUnion, Finset.mem_univ, true_and, iff_true]
  have h0 : (i 0).val < 512 := (i 0).isLt
  have h1 : (i 1).val < 2048 := (i 1).isLt
  refine ⟨⟨(i 0).val / 32, by omega⟩, Rect.mem_set_unit.mpr fun a => ?_⟩
  match a with
  | 0 => show 32 * ((i 0).val / 32) ≤ (i 0).val ∧ (i 0).val < 32 * ((i 0).val / 32) + 32; omega
  | 1 => show 0 ≤ (i 1).val ∧ (i 1).val < 0 + 2048; omega

/-- Different blocks of the result do not overlap. -/
theorem rO_disj (r r' : Fin 64) (h : r ≠ r') : Disjoint (rO r).set (rO r').set := by
  refine Rect.unit_disjoint 0 ?_
  have : r.val ≠ r'.val := fun e => h (Fin.ext e)
  show 32 * r.val + 32 ≤ 32 * r'.val ∨ 32 * r'.val + 32 ≤ 32 * r.val
  omega

/-- The blocks cover the result. -/
theorem rO_cover : (Finset.univ : Finset (Fin 64)).biUnion (fun r => (rO r).set) = Finset.univ := by
  ext i
  simp only [Finset.mem_biUnion, Finset.mem_univ, true_and, iff_true]
  have h0 : (i 0).val < 2048 := (i 0).isLt
  have h1 : (i 1).val < 2048 := (i 1).isLt
  refine ⟨⟨(i 0).val / 32, by omega⟩, Rect.mem_set_unit.mpr fun a => ?_⟩
  match a with
  | 0 => show 32 * ((i 0).val / 32) ≤ (i 0).val ∧ (i 0).val < 32 * ((i 0).val / 32) + 32; omega
  | 1 => show 0 ≤ (i 1).val ∧ (i 1).val < 0 + 2048; omega

/-! ## Devices -/

theorem nz_nz : ∀ c, nz (nz c) = c := by decide
theorem nx_nx : ∀ c, nx (nx c) = c := by decide
theorem ny_ny : ∀ c, ny (ny c) = c := by decide
theorem nxy : ∀ c, nx (ny c) = ny (nx c) := by decide

/-- The four places of the square, seen from a core: its own, x's, y's and the diagonal's. -/
def qm (c : Dev nD) : Fin 4 := ⟨c.val / 2, by have : c.val < 8 := c.isLt; omega⟩
def qx (c : Dev nD) : Fin 4 := qm (nx c)
def qy (c : Dev nD) : Fin 4 := qm (ny c)
def qw (c : Dev nD) : Fin 4 := qm (nx (ny c))

theorem qd_m : ∀ c, qd c (qm c) = nz c := by decide
theorem qd_x : ∀ c, qd c (qx c) = nz (nx c) := by decide
theorem qd_y : ∀ c, qd c (qy c) = nz (ny c) := by decide
theorem qd_w : ∀ c, qd c (qw c) = nz (nx (ny c)) := by decide

theorem o3_eq (c : Dev nD) (r : Fin 16) : o3 c r = ![32 * (blk (qm c) r).val, 0] := by
  revert c r; decide +kernel
theorem o4_eq (c : Dev nD) (r : Fin 16) : o4 c r = ![32 * (blk (qx c) r).val, 0] := by
  revert c r; decide +kernel
theorem o5_eq (c : Dev nD) (r : Fin 16) : o5 c r = ![32 * (blk (qy c) r).val, 0] := by
  revert c r; decide +kernel
theorem o6_eq (c : Dev nD) (r : Fin 16) : o6 c r = ![32 * (blk (qw c) r).val, 0] := by
  revert c r; decide +kernel

end Cert.Proof.K

end
-- ==== Proof.Proto.lean ====
/-
The protocol between the eight cores: which semaphores are its cells, what each unit on them hands over, what a core owes at
launch, and the order in which the cells may be waited for.

A core first tells its three neighbours that their copies may land in its scratches: the barrier's units hand over the
landing chunks. From then on every semaphore counts one transfer: the receiver's hands over the landed chunk, at named
contents, the sender's gives the source back.
-/
module

public import proofs.«01_k».proof.Proof.Vals

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The pipeline library's ghost state, and the protocol's. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## Cells -/

/-- Core `c`'s barrier. -/
abbrev bar (c : Dev nD) : GSem nD τ sig := ((c : Thread nD τ), .reg barS)
/-- Core `c`'s DMA semaphore `s`. -/
abbrev dm (c : Dev nD) (s : DmaSem sig) : GSem nD τ sig := ((c : Thread nD τ), .dma s)

/-- The semaphores by their use: chunk `r` to the partner (sent, landed), to x, to y, and the eight that travel on. -/
abbrev zsS (r : Fin 16) : DmaSem sig := at16 cc0_scratch8 r
abbrev zrS (r : Fin 16) : DmaSem sig := at16 cc0_scratch9 r
abbrev xsS (r : Fin 16) : DmaSem sig := at16 cc0_scratch10 r
abbrev xrS (r : Fin 16) : DmaSem sig := at16 cc0_scratch11 r
abbrev ysS (r : Fin 16) : DmaSem sig := at16 cc0_scratch12 r
abbrev yrS (r : Fin 16) : DmaSem sig := at16 cc0_scratch13 r
abbrev rxS (k : Fin 8) : DmaSem sig := at8 cc0_scratch14 k
abbrev ryS (k : Fin 8) : DmaSem sig := at8 cc0_scratch15 k
abbrev drS (r : Fin 16) : DmaSem sig := at16 cc0_scratch16 r

theorem lc0_val : (lcS0 : DmaSem sig).val = 2 := by decide
theorem lc1_val : (lcS1 : DmaSem sig).val = 3 := by decide
theorem zs_val (r : Fin 16) : (zsS r).val = 4 + r.val := by revert r; decide
theorem zr_val (r : Fin 16) : (zrS r).val = 20 + r.val := by revert r; decide
theorem xs_val (r : Fin 16) : (xsS r).val = 36 + r.val := by revert r; decide
theorem xr_val (r : Fin 16) : (xrS r).val = 52 + r.val := by revert r; decide
theorem ys_val (r : Fin 16) : (ysS r).val = 68 + r.val := by revert r; decide
theorem yr_val (r : Fin 16) : (yrS r).val = 84 + r.val := by revert r; decide
theorem rx_val (k : Fin 8) : (rxS k).val = 100 + k.val := by revert k; decide
theorem ry_val (k : Fin 8) : (ryS k).val = 108 + k.val := by revert k; decide
theorem dr_val (r : Fin 16) : (drS r).val = 116 + r.val := by revert r; decide

/-! ## Points-tos -/

/-- Chunk `r` of scratch `B` on core `c`, at a share, holding what `f` has there. -/
abbrev chk (B : Memref sig .tc .vmem S512x2048 .fp8e4m3) (c : Dev nD) (r : Fin 16) (q : PosShare TreeShare)
    (f : B.view.ty.Contents (Elt F)) : sProp 𝕄 :=
  (cut B r).view.loc (c : Thread nD τ) ↦[(cut B r).view.set]{q} f

/-- The same at contents not chosen. -/
abbrev chkAny (B : Memref sig .tc .vmem S512x2048 .fp8e4m3) (c : Dev nD) (r : Fin 16) : sProp 𝕄 :=
  iprop(∃ f, chk (F := F) B c r fullShare f)

/-- A whole buffer. -/
abbrev pt (c : Dev nD) (b : Ref sig .tc) (f : b.ty.Contents (Elt F)) : sProp 𝕄 :=
  (Memref.whole b).view.loc (c : Thread nD τ) ↦[(Memref.whole b).view.set]{fullShare} f

/-- The source of a local copy, at a share. -/
abbrev srcSPt (A : Dev nD → main_arg0.ty.Contents (Elt F)) (c : Dev nD) (q : PosShare TreeShare) : sProp 𝕄 :=
  (srcS c).view.loc (c : Thread nD τ) ↦[(srcS c).view.set]{q} A c
abbrev srcLPt (A : Dev nD → main_arg0.ty.Contents (Elt F)) (c : Dev nD) (q : PosShare TreeShare) : sProp 𝕄 :=
  (srcL c).view.loc (c : Thread nD τ) ↦[(srcL c).view.set]{q} A c

/-- The three shares of a chunk that is forwarded twice and read. -/
abbrev q1 : PosShare TreeShare := (fullShare : PosShare TreeShare).left
abbrev q2 : PosShare TreeShare := (fullShare : PosShare TreeShare).right.left
abbrev q3 : PosShare TreeShare := (fullShare : PosShare TreeShare).right.right
/-- The two shares of a chunk forwarded once and read. -/
abbrev qa : PosShare TreeShare := (fullShare : PosShare TreeShare).left
abbrev qb : PosShare TreeShare := (fullShare : PosShare TreeShare).right

variable (A : Dev nD → main_arg0.ty.Contents (Elt F))

/-! ## What each unit hands over -/

/-- A scratch's landing chunks on device `e`, and that their semaphores are in use. -/
def land16 (B : Memref sig .tc .vmem S512x2048 .fp8e4m3) (S : Fin 16 → DmaSem sig) (e : Dev nD) : sProp 𝕄 :=
  bigSep Finset.univ fun r : Fin 16 => iprop(chkAny (F := F) B e r ∗ reached (ER (F := F)) (dm e (S r)) 0)
def land8 (B : Memref sig .tc .vmem S512x2048 .fp8e4m3) (S : Fin 16 → DmaSem sig) (h : Fin 8 → Fin 16) (e : Dev nD) : sProp 𝕄 :=
  bigSep Finset.univ fun k : Fin 8 => iprop(chkAny (F := F) B e (h k) ∗ reached (ER (F := F)) (dm e (S (h k))) 0)

/-- Paid to core `c`'s barrier by its partner, by x and by y: their landing chunks for the copies of `c`, and that those
    copies' semaphores are in use. -/
def barPay (c : Dev nD) (d : Fin 3) : sProp 𝕄 :=
  if d = 0 then land16 (F := F) mZ zrS (nz c)
  else if d = 1 then iprop(land16 (F := F) mX xrS (nx c) ∗ land8 (F := F) mD drS lo (nx c))
  else iprop(land16 (F := F) mY yrS (ny c) ∗ land8 (F := F) mD drS hi (ny c))

/-- What a DMA semaphore's credit hands its core. -/
def dmaPay (c : Dev nD) (n : ℕ) : sProp 𝕄 :=
  if n = 2 then iprop(pt c cc0_scratch1 (stageC A c) ∗ srcSPt A c qa)
  else if n = 3 then iprop(pt c cc0_scratch0 (lC A c) ∗ srcLPt A c qb)
  else if h : n < 4 then iprop(emp)
  else if h : n < 20 then chk mZs c ⟨n - 4, by omega⟩ fullShare (cZ A c)
  else if h : n < 36 then chk mZ c ⟨n - 20, by omega⟩ fullShare (cZ A (nz c))
  else if h : n < 52 then chk mZ c ⟨n - 36, by omega⟩ q1 (cZ A (nz c))
  else if h : n < 68 then chk mX c ⟨n - 52, by omega⟩ fullShare (cZ A (nz (nx c)))
  else if h : n < 84 then chk mZ c ⟨n - 68, by omega⟩ q2 (cZ A (nz c))
  else if h : n < 100 then chk mY c ⟨n - 84, by omega⟩ fullShare (cZ A (nz (ny c)))
  else if h : n < 108 then chk mY c ⟨n - 100, by omega⟩ qa (cZ A (nz (ny c)))
  else if h : n < 116 then chk mX c ⟨n - 100, by omega⟩ qa (cZ A (nz (nx c)))
  else if h : n < 132 then chk mD c ⟨n - 116, by omega⟩ fullShare (cZ A (nz (nx (ny c))))
  else iprop(emp)

/-- The bytes of one chunk, of the staged quarter and of the kept half. -/
abbrev N : ℕ := (cut mZ 0).view.dmaCredit
abbrev NS : ℕ := (mS : Memref sig .tc .vmem S512x2048 .f32).view.dmaCredit
abbrev NL : ℕ := (mL : Memref sig .tc .vmem S2048x2048 .f32).view.dmaCredit
def amt (n : ℕ) : ℕ := if n = 2 then NS else if n = 3 then NL else N

/-- Each of the sizes is positive. -/
theorem N_pos : 0 < N := View.dmaCredit_pos _ (by decide)
theorem NS_pos : 0 < NS := View.dmaCredit_pos _ (by decide)
theorem NL_pos : 0 < NL := View.dmaCredit_pos _ (by decide)
theorem amt_pos (n : ℕ) : 0 < amt n := by
  unfold amt; split
  · exact NS_pos
  · split
    · exact NL_pos
    · exact N_pos

/-- The duties: three on a barrier, one on every semaphore of the kernel's own. -/
def dutiesOf : SemLoc sig → Finset (Fin 3)
  | .reg _ => Finset.univ
  | .dma s => if 2 ≤ s.val then {0} else ∅
def amountOf : SemLoc sig → ℕ
  | .reg _ => 1
  | .dma s => amt s.val
def payOf (c : Dev nD) : SemLoc sig → Fin 3 → sProp 𝕄
  | .reg _, d => barPay (F := F) c d
  | .dma s, _ => dmaPay A c s.val

/-- One round on every cell. -/
def Rd : Rounds.Schedule (GSem nD τ sig) (Fin 3) 𝕄 where
  duties g r := if r = 0 ∧ g.1.2 = .tc then dutiesOf g.2 else ∅
  unitless _ := False
  amount g _ _ := amountOf g.2
  payload g _ d := payOf A g.1.1 g.2 d
  amount_pos g _ _ _ := by
    rcases g with ⟨c, s | s⟩
    · exact Nat.one_pos
    · exact amt_pos _

theorem storable_dite {p : Prop} [Decidable p] {X : p → sProp 𝕄} {Y : ¬ p → sProp 𝕄} (hX : ∀ h, BI.Storable (upEmb : UEmb _ 𝕄) (X h))
    (hY : ∀ h, BI.Storable (upEmb : UEmb _ 𝕄) (Y h)) : BI.Storable (upEmb : UEmb _ 𝕄) (if h : p then X h else Y h) := by
  by_cases h : p
  · rw [dif_pos h]; exact hX h
  · rw [dif_neg h]; exact hY h
theorem storable_ite {p : Prop} [Decidable p] {X Y : sProp 𝕄} (hX : BI.Storable (upEmb : UEmb _ 𝕄) X)
    (hY : BI.Storable (upEmb : UEmb _ 𝕄) Y) : BI.Storable (upEmb : UEmb _ 𝕄) (if p then X else Y) := by
  by_cases h : p
  · rw [if_pos h]; exact hX
  · rw [if_neg h]; exact hY

instance land16_storable (B : Memref sig .tc .vmem S512x2048 .fp8e4m3) (S : Fin 16 → DmaSem sig) (e : Dev nD) :
    BI.Storable (upEmb : UEmb _ 𝕄) (land16 (F := F) B S e) := by
  unfold land16; infer_instance
instance land8_storable (B : Memref sig .tc .vmem S512x2048 .fp8e4m3) (S : Fin 16 → DmaSem sig) (h : Fin 8 → Fin 16) (e : Dev nD) :
    BI.Storable (upEmb : UEmb _ 𝕄) (land8 (F := F) B S h e) := by
  unfold land8; infer_instance
instance barPay_storable (c : Dev nD) (d : Fin 3) : BI.Storable (upEmb : UEmb _ 𝕄) (barPay (F := F) c d) :=
  storable_ite inferInstance (storable_ite inferInstance inferInstance)
instance dmaPay_storable (c : Dev nD) (n : ℕ) : BI.Storable (upEmb : UEmb _ 𝕄) (dmaPay A c n) := by
  unfold dmaPay
  refine storable_ite inferInstance (storable_ite inferInstance ?_)
  iterate 9 refine storable_dite (fun _ => inferInstance) fun _ => ?_
  exact storable_dite (fun _ => inferInstance) fun _ => inferInstance
instance payload_storable (g : GSem nD τ sig) (r : ℕ) (d : Fin 3) : BI.Storable (upEmb : UEmb _ 𝕄) ((Rd A).payload g r d) := by
  show BI.Storable upEmb (payOf A g.1.1 g.2 d)
  rcases g with ⟨c, s | s⟩
  · exact barPay_storable _ _
  · exact dmaPay_storable _ _ _

/-! ## The schedule read at a cell -/

theorem duties_bar (c : Dev nD) : (Rd A).duties (bar c) 0 = Finset.univ := by
  dsimp only [Rd]; exact if_pos ⟨rfl, rfl⟩
theorem duties_dm (c : Dev nD) (s : DmaSem sig) (hs : 2 ≤ s.val) : (Rd A).duties (dm c s) 0 = {0} := by
  dsimp only [Rd]; exact (if_pos ⟨rfl, rfl⟩).trans (if_pos hs)
theorem duties_later (g : GSem nD τ sig) : ∀ r, 1 ≤ r → (Rd A).duties g r = ∅ :=
  fun r hr => by dsimp only [Rd]; exact if_neg fun h => by omega
theorem amount_bar (c : Dev nD) (d : Fin 3) : (Rd A).amount (bar c) 0 d = 1 := rfl
theorem amount_dm (c : Dev nD) (s : DmaSem sig) (d : Fin 3) : (Rd A).amount (dm c s) 0 d = amt s.val := rfl
/-- A barrier waits for three units. -/
theorem expect_bar (c : Dev nD) : (Rd A).expect (bar c) 0 = 3 := by
  unfold Schedule.expect Schedule.amountOf
  rw [duties_bar]
  rfl
/-- A copy's semaphore waits for the copy's bytes. -/
theorem expect_dm (c : Dev nD) (s : DmaSem sig) (hs : 2 ≤ s.val) : (Rd A).expect (dm c s) 0 = amt s.val := by
  unfold Schedule.expect Schedule.amountOf
  rw [duties_dm A c s hs, Finset.sum_singleton, amount_dm]
theorem rest_dm (c : Dev nD) (s : DmaSem sig) (hs : 2 ≤ s.val) :
    bigSep ((Rd A).duties (dm c s) 0 \ ∅) (fun d => (Rd A).payload (dm c s) 0 d) = dmaPay A c s.val := by
  rw [Finset.sdiff_empty, duties_dm A c s hs, bigSep_singleton]
  rfl
theorem rest_bar (c : Dev nD) :
    bigSep ((Rd A).duties (bar c) 0 \ ∅) (fun d => (Rd A).payload (bar c) 0 d)
      = iprop(barPay (F := F) c 0 ∗ barPay (F := F) c 1 ∗ barPay (F := F) c 2) := by
  rw [Finset.sdiff_empty, duties_bar, show (Finset.univ : Finset (Fin 3)) = {0, 1, 2} from by decide,
    bigSep_insert (by decide), bigSep_insert (by decide), bigSep_singleton]
  rfl

/-! ## The payloads by use -/

section Pay
variable (c : Dev nD) (r : Fin 16) (k : Fin 8)

theorem pay_lc0 : dmaPay A c (lcS0 : DmaSem sig).val = iprop(pt c cc0_scratch1 (stageC A c) ∗ srcSPt A c qa) := by
  rw [lc0_val]; exact if_pos rfl
theorem pay_lc1 : dmaPay A c (lcS1 : DmaSem sig).val = iprop(pt c cc0_scratch0 (lC A c) ∗ srcLPt A c qb) := by
  rw [lc1_val]; exact (if_neg (by decide)).trans (if_pos rfl)

theorem pay_zs : dmaPay A c (zsS r).val = chk mZs c r fullShare (cZ A c) := by
  rw [zs_val]; unfold dmaPay
  rw [if_neg (by omega), if_neg (by omega), dif_neg (by omega), dif_pos (by omega)]
  congr 2 <;> simp
theorem pay_zr : dmaPay A c (zrS r).val = chk mZ c r fullShare (cZ A (nz c)) := by
  rw [zr_val]; unfold dmaPay
  rw [if_neg (by omega), if_neg (by omega), dif_neg (by omega), dif_neg (by omega), dif_pos (by omega)]
  congr 2 <;> simp
theorem pay_xs : dmaPay A c (xsS r).val = chk mZ c r q1 (cZ A (nz c)) := by
  rw [xs_val]; unfold dmaPay
  rw [if_neg (by omega), if_neg (by omega), dif_neg (by omega), dif_neg (by omega), dif_neg (by omega), dif_pos (by omega)]
  congr 2 <;> simp
theorem pay_xr : dmaPay A c (xrS r).val = chk mX c r fullShare (cZ A (nz (nx c))) := by
  rw [xr_val]; unfold dmaPay
  rw [if_neg (by omega), if_neg (by omega), dif_neg (by omega), dif_neg (by omega), dif_neg (by omega), dif_neg (by omega),
    dif_pos (by omega)]
  congr 2 <;> simp
theorem pay_ys : dmaPay A c (ysS r).val = chk mZ c r q2 (cZ A (nz c)) := by
  rw [ys_val]; unfold dmaPay
  rw [if_neg (by omega), if_neg (by omega), dif_neg (by omega), dif_neg (by omega), dif_neg (by omega), dif_neg (by omega),
    dif_neg (by omega), dif_pos (by omega)]
  congr 2 <;> simp
theorem pay_yr : dmaPay A c (yrS r).val = chk mY c r fullShare (cZ A (nz (ny c))) := by
  rw [yr_val]; unfold dmaPay
  rw [if_neg (by omega), if_neg (by omega), dif_neg (by omega), dif_neg (by omega), dif_neg (by omega), dif_neg (by omega),
    dif_neg (by omega), dif_neg (by omega), dif_pos (by omega)]
  congr 2 <;> simp
theorem pay_rx : dmaPay A c (rxS k).val = chk mY c (lo k) qa (cZ A (nz (ny c))) := by
  rw [rx_val]; unfold dmaPay
  rw [if_neg (by omega), if_neg (by omega), dif_neg (by omega), dif_neg (by omega), dif_neg (by omega), dif_neg (by omega),
    dif_neg (by omega), dif_neg (by omega), dif_neg (by omega), dif_pos (by omega)]
  congr 2 <;> simp [lo]
theorem pay_ry : dmaPay A c (ryS k).val = chk mX c (hi k) qa (cZ A (nz (nx c))) := by
  rw [ry_val]; unfold dmaPay
  rw [if_neg (by omega), if_neg (by omega), dif_neg (by omega), dif_neg (by omega), dif_neg (by omega), dif_neg (by omega),
    dif_neg (by omega), dif_neg (by omega), dif_neg (by omega), dif_neg (by omega), dif_pos (by omega)]
  have e : (⟨108 + k.val - 100, by omega⟩ : Fin 16) = hi k := Fin.ext (by simp only [hi]; omega)
  rw [e]
theorem pay_dr : dmaPay A c (drS r).val = chk mD c r fullShare (cZ A (nz (nx (ny c)))) := by
  rw [dr_val]; unfold dmaPay
  rw [if_neg (by omega), if_neg (by omega), dif_neg (by omega), dif_neg (by omega), dif_neg (by omega), dif_neg (by omega),
    dif_neg (by omega), dif_neg (by omega), dif_neg (by omega), dif_neg (by omega), dif_neg (by omega), dif_pos (by omega)]
  congr 2 <;> simp

end Pay

theorem amt_of_ge {s : DmaSem sig} (hs : 4 ≤ s.val) : amt s.val = N := by
  unfold amt; rw [if_neg (by omega), if_neg (by omega)]

/-! ## Levels -/

/-- The cells of the cores' own threads are waited for. -/
def L (g : GSem nD τ sig) : Finset Unit := if g.1.2 = .tc then {()} else ∅
/-- The barrier first, then the partner's chunks, then the neighbours', then the diagonal's; nothing waits behind the rest. -/
def lvOf : SemLoc sig → ℕ
  | .reg _ => 1
  | .dma s => if s.val < 20 then 0 else if s.val < 36 then 2 else if s.val < 52 then 0 else if s.val < 68 then 3
      else if s.val < 84 then 0 else if s.val < 100 then 3 else if s.val < 116 then 0 else 4
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-- Everything owed lies above a level. -/
def Above (n : ℕ) (O : CellTallies nD τ sig Unit) : Prop := ∀ g u, 0 < O g u → g.1.2 = .tc ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := by
  intro g u hg
  rw [Pi.add_apply, Finsupp.add_apply] at hg
  rcases Nat.add_pos_iff_pos_or_pos.mp hg with hg | hg
  · exact h g u hg
  · exact h' g u hg
theorem Above.at {n : ℕ} (c : Dev nD) (sm : SemLoc sig) (k : ℕ) (h : n < lvOf sm) : Above n (tallyAt ((c : Thread nD τ), sm) () k) := by
  intro g u hg
  rw [tallyAt_apply] at hg
  by_cases e : g = ((c : Thread nD τ), sm) ∧ u = ()
  · rw [e.1]; exact ⟨rfl, h⟩
  · rw [if_neg e] at hg; exact absurd hg (Nat.lt_irrefl 0)
theorem Above.mono {n n' : ℕ} {O : CellTallies nD τ sig Unit} (hn : n' ≤ n) (h : Above n O) : Above n' O :=
  fun g u hg => ⟨(h g u hg).1, Nat.lt_of_le_of_lt hn (h g u hg).2⟩

/-- A wait is allowed below everything that the core still owes. -/
theorem mayWait (c : Dev nD) (sm : SemLoc sig) {O : CellTallies nD τ sig Unit} (h : Above (lvOf sm) O) :
    (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

theorem lv_lc0 : lvOf (.dma lcS0) = 0 := by simp only [lvOf, lc0_val]; rfl
theorem lv_lc1 : lvOf (.dma lcS1) = 0 := by simp only [lvOf, lc1_val]; rfl
theorem lv_zr (r : Fin 16) : lvOf (.dma (zrS r)) = 2 := by revert r; decide
theorem lv_xr (r : Fin 16) : lvOf (.dma (xrS r)) = 3 := by revert r; decide
theorem lv_yr (r : Fin 16) : lvOf (.dma (yrS r)) = 3 := by revert r; decide
theorem lv_dr (r : Fin 16) : lvOf (.dma (drS r)) = 4 := by revert r; decide

/-! ## What a core owes at launch -/

/-- A sum over a list, the head last. -/
def sumL {α : Type} (g : α → CellTallies nD τ sig Unit) : List α → CellTallies nD τ sig Unit
  | [] => 0
  | a :: l => sumL g l + g a

theorem Above.sumL {α : Type} {n : ℕ} {g : α → CellTallies nD τ sig Unit} (h : ∀ a, Above n (g a)) : ∀ l, Above n (sumL g l)
  | [] => Above.zero n
  | a :: l => (Above.sumL h l).add (h a)

/-- One chunk's debts: to the partner; to x and y; the chunk that travels on. -/
def tZ (c : Dev nD) (r : Fin 16) : CellTallies nD τ sig Unit := tallyAt (dm (nz c) (zrS r)) () N
def tF (c : Dev nD) (r : Fin 16) : CellTallies nD τ sig Unit := tallyAt (dm (ny c) (yrS r)) () N + tallyAt (dm (nx c) (xrS r)) () N
def tA (c : Dev nD) (k : Fin 8) : CellTallies nD τ sig Unit := tallyAt (dm (nx c) (drS (lo k))) () N
def tB (c : Dev nD) (k : Fin 8) : CellTallies nD τ sig Unit := tallyAt (dm (ny c) (drS (hi k))) () N

/-- After the barrier, after the partner's chunks, and so on. -/
def oB (c : Dev nD) : CellTallies nD τ sig Unit := sumL (tB c) all8
def oA (c : Dev nD) : CellTallies nD τ sig Unit := sumL (tA c) all8 + oB c
def oF (c : Dev nD) : CellTallies nD τ sig Unit := sumL (tF c) all16 + oA c
def oZ (c : Dev nD) : CellTallies nD τ sig Unit := sumL (tZ c) all16 + oF c
/-- At launch. -/
def O₀ (c : Dev nD) : CellTallies nD τ sig Unit :=
  oZ c + tallyAt (bar (ny c)) () 1 + tallyAt (bar (nx c)) () 1 + tallyAt (bar (nz c)) () 1

theorem above_tB (c : Dev nD) (k : Fin 8) : Above 3 (tB c k) := Above.at _ _ _ (by rw [lv_dr]; decide)
theorem above_tA (c : Dev nD) (k : Fin 8) : Above 3 (tA c k) := Above.at _ _ _ (by rw [lv_dr]; decide)
theorem above_tF (c : Dev nD) (r : Fin 16) : Above 2 (tF c r) :=
  (Above.at _ _ _ (by rw [lv_yr]; decide)).add (Above.at _ _ _ (by rw [lv_xr]; decide))
theorem above_tZ (c : Dev nD) (r : Fin 16) : Above 1 (tZ c r) := Above.at _ _ _ (by rw [lv_zr]; decide)
theorem above_oB (c : Dev nD) : Above 3 (oB c) := Above.sumL (above_tB c) _
theorem above_oA (c : Dev nD) : Above 3 (oA c) := (Above.sumL (above_tA c) _).add (above_oB c)
theorem above_oF (c : Dev nD) : Above 2 (oF c) := (Above.sumL (above_tF c) _).add ((above_oA c).mono (by decide))
theorem above_oZ (c : Dev nD) : Above 1 (oZ c) := (Above.sumL (above_tZ c) _).add ((above_oF c).mono (by decide))
theorem above_O₀ (c : Dev nD) : Above 0 (O₀ c) :=
  ((((above_oZ c).mono (by decide)).add (Above.at _ _ _ (by decide))).add (Above.at _ _ _ (by decide))).add (Above.at _ _ _ (by decide))

/-! ## All cells, and the persistent part -/

/-- The kernel's own DMA semaphores. -/
def own (k : Fin 130) : DmaSem sig := ⟨k.val + 2, Nat.add_lt_add_right k.isLt 2⟩
abbrev osem (k : Fin 130) : SemLoc sig := .dma (own k)

def barEmb : Dev nD ↪ GSem nD τ sig := ⟨fun c => bar c, fun _ _ h => congrArg (fun g : GSem nD τ sig => g.1.1) h⟩
/-- Different numbers name different semaphores. -/
theorem own_inj : Function.Injective own := fun a b h => Fin.ext (by have := congrArg Fin.val h; simp only [own] at this; omega)
theorem osem_inj : Function.Injective osem := fun a b h => own_inj (SemLoc.dma.inj h)
def dmEmb : Dev nD × Fin 130 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev dmCells : Finset (GSem nD τ sig) := Finset.univ.map dmEmb

theorem bar_mem (c : Dev nD) : bar c ∈ (barCells ∪ dmCells : Finset (GSem nD τ sig)) :=
  Finset.mem_union_left _ (Finset.mem_map_of_mem barEmb (Finset.mem_univ c))
theorem own_of (s : DmaSem sig) (hs : 2 ≤ s.val) : ∃ k, own k = s :=
  ⟨⟨s.val - 2, by have : s.val < 132 := s.isLt; omega⟩, Fin.ext (by simp only [own]; omega)⟩
theorem dm_mem (c : Dev nD) (s : DmaSem sig) (hs : 2 ≤ s.val) : dm c s ∈ (barCells ∪ dmCells : Finset (GSem nD τ sig)) := by
  obtain ⟨k, rfl⟩ := own_of s hs
  exact Finset.mem_union_right _ (Finset.mem_map_of_mem dmEmb (Finset.mem_univ (c, k)))

/-- Every cell's invariant. -/
def invs (K : GSem nD τ sig → ℕ) : sProp 𝕄 := bigSep (barCells ∪ dmCells) fun g => cellInv (ER (F := F)) (Rd A) (K g) g
instance invs_persistent (K : GSem nD τ sig → ℕ) : BI.Persistent (invs A K) := by unfold invs; infer_instance

/-- A barrier's invariant, among all of them. -/
theorem inv_bar (K : GSem nD τ sig → ℕ) (c : Dev nD) : invs A K ⊢ cellInv (ER (F := F)) (Rd A) (K (bar c)) (bar c) :=
  bigSep_elim (bar_mem c)
/-- A copy's invariant, among all of them. -/
theorem inv_dm (K : GSem nD τ sig → ℕ) (c : Dev nD) (s : DmaSem sig) (hs : 2 ≤ s.val) :
    invs A K ⊢ cellInv (ER (F := F)) (Rd A) (K (dm c s)) (dm c s) :=
  bigSep_elim (dm_mem c s hs)

/-- Core `c`'s own semaphores are in use. -/
def rch (c : Dev nD) : sProp 𝕄 := bigSep Finset.univ fun k : Fin 130 => reached (ER (F := F)) (dm c (own k)) 0
instance rch_persistent (c : Dev nD) : BI.Persistent (rch (F := F) c) := by unfold rch; infer_instance
/-- Every cell has reached its one round. -/
theorem rch_at (c : Dev nD) (s : DmaSem sig) (hs : 2 ≤ s.val) : rch (F := F) c ⊢ reached (ER (F := F)) (dm c s) 0 := by
  obtain ⟨k, rfl⟩ := own_of s hs
  exact bigSep_elim (Finset.mem_univ k)

end Cert.Proof.K

end
-- ==== Proof.Rules.lean ====
/-
One rule per piece of the body: what the piece takes and what it leaves.
-/
module

public import proofs.«01_k».proof.Proof.Proto

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

variable (A : Dev nD → main_arg0.ty.Contents (Elt F)) (G : Dev nD → cc0_stg0_0.ty.Contents (Elt F))
  (K : GSem nD τ sig → ℕ) (c : Dev nD)

/-- The weakest precondition of a piece on core `c`. -/
abbrev wpc (p : P F) (Q : PUnit → sProp 𝕄) : sProp 𝕄 := wp frame (wpE (defs₀ (F := F)) 𝒱₀ (c : Thread nD τ) none) Set.univ p Q

/-- Core `c` owes exactly `O`. -/
def ow (O : CellTallies nD τ sig Unit) : sProp 𝕄 := iprop(∃ W, owes (c : Thread nD τ) O W)

/-! ## Transfers of one chunk -/

/-- A chunk sent. -/
theorem wp_pSend (A' B' : Memref sig .tc .vmem S512x2048 .fp8e4m3) (hA : A'.IsWhole) (hB : B'.IsWhole) (e : Dev nD) (r : Fin 16)
    (s t : DmaSem sig) (hs : 4 ≤ s.val) (ht : 4 ≤ t.val) (hN : (cut B' r).view.dmaCredit = N)
    (q : PosShare TreeShare) (fA : A'.view.ty.Contents (Elt F)) (fB : B'.view.ty.Contents (Elt F))
    (hv : (cut B' r).view.read (Elt F) fB = (cut A' r).view.read (Elt F) fA)
    (hp₁ : chk A' c r q fA = dmaPay A c s.val) (hp₂ : chk B' e r fullShare fB = dmaPay A e t.val)
    (O : CellTallies nD τ sig Unit) (Q : PUnit → sProp 𝕄) :
    iprop(invs A K ∗ rch (F := F) c ∗ reached (ER (F := F)) (dm e t) 0
        ∗ chk A' c r q fA ∗ chkAny (F := F) B' e r ∗ ow (F := F) c (O + tallyAt (dm e t) () N)
        ∗ dutyTok (ER (F := F)) (dm c s) 0 0 ∗ dutyTok (ER (F := F)) (dm e t) 0 0
        ∗ (cred (tallyAt (dm c s) () N) ∗ ow (F := F) c O -∗ Q ⟨⟩))
      ⊢ wpc c (pSend A' B' hA hB e r s t) Q := by
  unfold pSend ow
  show _ ⊢ wp frame _ Set.univ (.op _ .ret) Q
  iintro ⟨#HI, #Hr, #Hre, HA, ⟨%fd, HB⟩, ⟨%W, HO⟩, Hts, Htt, Hk⟩
  iapply (Rounds.wp_send_pointsTo 𝒱₀ (ER (F := F)) (Rd A) (c : Thread nD τ) none (c' := (e : Thread nD τ)) (src := cut A' r) (dst := cut B' r)
      (sS := .dma s) (sem := .dma t) (q := q) (fs := fA) (κ₁ := K (dm c s)) (κ₂ := K (dm e t))
      (r₁ := 0) (r₂ := 0) (d₁ := 0) (d₂ := 0) (fd := fd)
      (by rw [duties_dm A c s (by omega)]; exact Finset.mem_singleton_self _)
      (by rw [duties_dm A e t (by omega)]; exact Finset.mem_singleton_self _)
      () () N hN ((amount_dm A c s 0).trans (amt_of_ge hs)) ((amount_dm A e t 0).trans (amt_of_ge ht)) O rfl (W := W)
      (Entails.of_eq hp₁)
      (Entails.of_eq ((pointsTo_congr (write_agrees (cut B' r).view fd fB _ hv)).trans hp₂))) $$ [HA HB HO Hts Htt]
  · isplitr; · iapply (inv_dm A K c s (by omega)); iexact HI
    isplitr; · iapply (inv_dm A K e t (by omega)); iexact HI
    isplitl [HA]; · iexact HA
    isplitl [HB]; · iexact HB
    isplitl [HO]; · iexact HO
    isplitl [Hts]; · iexact Hts
    isplitr; · iapply (rch_at c s (by omega)); iexact Hr
    isplitl [Htt]; · iexact Htt
    iexact Hre
  iintro ⟨Hc, HO⟩
  rw [wp_ret]
  imodintro
  iapply Hk
  isplitl [Hc]; · iexact Hc
  iexists W; iexact HO

/-- A wait for one chunk's credit. -/
theorem wp_pWait (A' B' : Memref sig .tc .vmem S512x2048 .fp8e4m3) (hA : A'.IsWhole) (hB : B'.IsWhole) (r : Fin 16)
    (s : DmaSem sig) (hs : 4 ≤ s.val) (hN : (cut B' r).view.dmaCredit = N)
    (O : CellTallies nD τ sig Unit) (hO : Above (lvOf (.dma s)) O) (Q : PUnit → sProp 𝕄) :
    iprop(invs A K ∗ levAts L lv ∗ ow (F := F) c O ∗ cred (tallyAt (dm c s) () N) ∗ atPos (ER (F := F)) (dm c s) 0 ∅ 0
        ∗ (ow (F := F) c O ∗ atPos (ER (F := F)) (dm c s) 1 ∅ 0 ∗ dmaPay A c s.val -∗ Q ⟨⟩))
      ⊢ wpc c (pWait A' B' hA hB r s) Q := by
  unfold pWait ow
  show _ ⊢ wp frame _ Set.univ (.op _ .ret) Q
  iintro ⟨#HI, #Hlev, ⟨%W, HO⟩, Hc, Hat, Hk⟩
  iapply (Rounds.wp_wait_rest_token 𝒱₀ (ER (F := F)) (Rd A) (c : Thread nD τ) none (κ := K (dm c s))
      (wpE_waitDma2_eq (src := cut A' r) (dst := cut B' r) 𝒱₀ (c : Thread nD τ) none Set.univ) (Set.mem_univ _) () (O := O) (W := W) (R := 0) (m := 0) (T := ∅)
      ((Nat.zero_add _).trans ((hN.trans (amt_of_ge hs).symm).trans (expect_dm A c s (by omega)).symm))) $$ [Hc HO Hat]
  · isplitr; · iapply (inv_dm A K c s (by omega)); iexact HI
    isplitl [Hc]; · rw [hN]; iexact Hc
    isplitl [HO]; · iexact HO
    isplitr; · iapply (mayWait c (.dma s) hO); iexact Hlev
    iexact Hat
  iintro ⟨HO, Hat, -, Hpay⟩
  ihave Hp := (Entails.of_eq (rest_dm A c s (by omega))) $$ Hpay
  rw [wp_ret]
  imodintro
  iapply Hk
  isplitl [HO]; · iexists _; iexact HO
  isplitl [Hat]; · iexact Hat
  iexact Hp

/-! ## Narrowing and writing the result -/

/-- A chunk of the send buffer, narrowed from the staged quarter. -/
theorem wp_pNarrow (r : Fin 16) (Q : PUnit → sProp 𝕄) :
    iprop(pt c cc0_scratch1 (stageC A c) ∗ chkAny (F := F) mZs c r
        ∗ (pt c cc0_scratch1 (stageC A c) ∗ chk mZs c r fullShare (cZ A c) -∗ Q ⟨⟩))
      ⊢ wpc c (pNarrow r) Q := by
  unfold pNarrow
  show _ ⊢ wp frame _ Set.univ (.op _ fun v => .op _ fun w => .op _ .ret) Q
  iintro ⟨HS, ⟨%f, HZ⟩, Hk⟩
  iapply (wp_load_rect (m := mS) (r := rC r) 𝒱₀ (c : Thread nD τ) none Set.univ (S := (mS : Memref sig .tc .vmem S512x2048 .f32).view.set)
    (f := stageC A c) (View.set_slice_subset _ _)) $$ HS
  iintro HS
  iapply (wp_load_rect (m := mZs) (r := rC r) 𝒱₀ (c : Thread nD τ) none Set.univ (S := (cut mZs r).view.set)
    (f := f) (Finset.Subset.refl _)) $$ HZ
  iintro HZ
  iapply (wp_store (m := mZs) (r := rC r) 𝒱₀ (c : Thread nD τ) none Set.univ (S := (cut mZs r).view.set)
    (f := f) (Finset.Subset.refl _)) $$ HZ
  iintro HZ
  rw [wp_ret]
  imodintro
  iapply Hk
  isplitl [HS]; · iexact HS
  ihave H := (Entails.of_eq (pointsTo_congr (write_agrees (cut mZs r).view f (cZ A c) _ (payZ_eq A c r).symm))) $$ HZ
  iexact H

/-- The block of chunk `r` of quarter `s` of the result. -/
abbrev oblk (s : Fin 4) (r : Fin 16) (f : cc0_stg1_0.ty.Contents (Elt F)) : sProp 𝕄 :=
  ((mO : Memref sig .tc .vmem S2048x2048 .f32).access (rO (blk s r))).loc (c : Thread nD τ)
    ↦[((mO : Memref sig .tc .vmem S2048x2048 .f32).access (rO (blk s r))).set]{fullShare} f
abbrev oAny (s : Fin 4) (r : Fin 16) : sProp 𝕄 := iprop(∃ f, oblk (F := F) c s r f)

/-- What a chunk's use reads besides the chunk: the kept half and gamma. -/
def ro : sProp 𝕄 := iprop(pt c cc0_scratch0 (lC A c) ∗ pt c cc0_stg0_0 (G c))

/-- The scale, read whole. -/
theorem gread (f : cc0_stg0_0.ty.Contents (Elt F)) :
    ((mG : Memref sig .tc .vmem S1x2048 .f32).access (Rect.unit (s := S1x2048) ![0, 0] S1x2048.size inb_S1x2048_S1x2048_0_0)).read (Elt F) f = f := by
  funext j
  refine congrArg f (funext fun a => Fin.ext ?_)
  match a with
  | 0 => exact (Nat.zero_add _).trans (Nat.one_mul _)
  | 1 => exact (Nat.zero_add _).trans (Nat.one_mul _)

/-- A block of the result, read. -/
theorem oread (b : Fin 64) (f : cc0_stg1_0.ty.Contents (Elt F)) :
    ((mO : Memref sig .tc .vmem S2048x2048 .f32).access (rO b)).read (Elt F) f = fun j => f ((rO b).emb j) := rfl

/-- A block of the kept half, read. -/
theorem lread (b : Fin 64) (f : cc0_scratch0.ty.Contents (Elt F)) :
    ((mL : Memref sig .tc .vmem S2048x2048 .f32).access (rO b)).read (Elt F) f = fun j => f ((rO b).emb j) := rfl

/-- The block of the target is what the piece computes. -/
theorem out_val (B' : Memref sig .tc .vmem S512x2048 .fp8e4m3) (s : Fin 4) (r : Fin 16) (fB : B'.view.ty.Contents (Elt F))
    (hv : (cut B' r).view.read (Elt F) fB = fun j => cZ A (qd c s) ((rC r).emb j)) :
    ((mO : Memref sig .tc .vmem S2048x2048 .f32).access (rO (blk s r))).read (Elt F) (tgt A G c)
      = payR (F := F) (((mL : Memref sig .tc .vmem S2048x2048 .f32).access (rO (blk s r))).read (Elt F) (lC A c))
      ((cut B' r).view.read (Elt F) fB)
      (((mG : Memref sig .tc .vmem S1x2048 .f32).access (Rect.unit (s := S1x2048) ![0, 0] S1x2048.size inb_S1x2048_S1x2048_0_0)).read (Elt F) (G c)) := by
  rw [hv, gread, oread, lread, tgt_read]
  rfl

/-- A block of the result, written from a landed chunk. -/
theorem wp_pOut (B' : Memref sig .tc .vmem S512x2048 .fp8e4m3) (s : Fin 4) (r : Fin 16) (o : Fin 2 → Nat)
    (ho : ∀ a, o a + S32x2048.size a ≤ S2048x2048.size a) (hoe : o = ![32 * (blk s r).val, 0])
    (q : PosShare TreeShare) (fB : B'.view.ty.Contents (Elt F))
    (hv : (cut B' r).view.read (Elt F) fB = fun j => cZ A (qd c s) ((rC r).emb j)) (Q : PUnit → sProp 𝕄) :
    iprop(ro A G c ∗ chk B' c r q fB ∗ oAny (F := F) c s r
        ∗ (ro A G c ∗ chk B' c r q fB ∗ oblk (F := F) c s r (tgt A G c) -∗ Q ⟨⟩))
      ⊢ wpc c (pOut B' r o ho) Q := by
  subst hoe
  unfold pOut ro
  show _ ⊢ wp frame _ Set.univ (.op _ fun v => .op _ fun w => .op _ fun g => .op _ fun u => .op _ .ret) Q
  iintro ⟨⟨HL, HG⟩, HB, ⟨%f, HO⟩, Hk⟩
  iapply (wp_load_rect (m := mL) (r := rO (blk s r)) 𝒱₀ (c : Thread nD τ) none Set.univ (S := (mL : Memref sig .tc .vmem S2048x2048 .f32).view.set)
    (f := lC A c) (View.set_slice_subset _ _)) $$ HL
  iintro HL
  iapply (wp_load_rect (m := B') (r := rC r) 𝒱₀ (c : Thread nD τ) none Set.univ (S := (cut B' r).view.set)
    (f := fB) (Finset.Subset.refl _)) $$ HB
  iintro HB
  iapply (wp_load_rect (m := mG) (r := Rect.unit (s := S1x2048) ![0, 0] S1x2048.size inb_S1x2048_S1x2048_0_0) 𝒱₀ (c : Thread nD τ) none Set.univ
    (S := (mG : Memref sig .tc .vmem S1x2048 .f32).view.set) (f := G c) (View.set_slice_subset _ _)) $$ HG
  iintro HG
  iapply (wp_load_rect (m := mO) (r := rO (blk s r)) 𝒱₀ (c : Thread nD τ) none Set.univ
    (S := ((mO : Memref sig .tc .vmem S2048x2048 .f32).access (rO (blk s r))).set) (f := f) (Finset.Subset.refl _)) $$ HO
  iintro HO
  iapply (wp_store (m := mO) (r := rO (blk s r)) 𝒱₀ (c : Thread nD τ) none Set.univ
    (S := ((mO : Memref sig .tc .vmem S2048x2048 .f32).access (rO (blk s r))).set) (f := f) (Finset.Subset.refl _)) $$ HO
  iintro HO
  rw [wp_ret]
  imodintro
  iapply Hk
  isplitl [HL HG]; · isplitl [HL] <;> iassumption
  isplitl [HB]; · iexact HB
  ihave H := (Entails.of_eq (pointsTo_congr (write_agrees ((mO : Memref sig .tc .vmem S2048x2048 .f32).access (rO (blk s r))) f
    (tgt A G c) _ (out_val A G c B' s r fB hv)))) $$ HO
  iexact H

end Cert.Proof.K

end
-- ==== Proof.Start.lean ====
/-
The rules of the barrier and of the two local copies.
-/
module

public import proofs.«01_k».proof.Proof.Rules

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → main_arg0.ty.Contents (Elt F)) (K : GSem nD τ sig → ℕ) (c : Dev nD)

/-- What core `c` lends to its neighbours at the barrier: every landing chunk it has. -/
def lends : sProp 𝕄 :=
  iprop(land16 (F := F) mZ zrS c ∗ (land16 (F := F) mX xrS c ∗ land8 (F := F) mD drS lo c)
    ∗ (land16 (F := F) mY yrS c ∗ land8 (F := F) mD drS hi c))

/-- What a core lends its partner is the payload of the partner's barrier unit. -/
theorem lend0 : land16 (F := F) mZ zrS c = (Rd A).payload (bar (nz c)) 0 0 := by
  show _ = barPay (F := F) (nz c) 0
  unfold barPay; rw [if_pos rfl, nz_nz]
/-- The same for the neighbour in x. -/
theorem lend1 : iprop(land16 (F := F) mX xrS c ∗ land8 (F := F) mD drS lo c) = (Rd A).payload (bar (nx c)) 0 1 := by
  show _ = barPay (F := F) (nx c) 1
  unfold barPay; rw [if_neg (by decide), if_pos rfl, nx_nx]
/-- The same for the neighbour in y. -/
theorem lend2 : iprop(land16 (F := F) mY yrS c ∗ land8 (F := F) mD drS hi c) = (Rd A).payload (bar (ny c)) 0 2 := by
  show _ = barPay (F := F) (ny c) 2
  unfold barPay; rw [if_neg (by decide), if_neg (by decide), ny_ny]

/-- The duties of the barrier that core `c` pays. -/
def barToks : sProp 𝕄 :=
  iprop(dutyTok (ER (F := F)) (bar (nz c)) 0 0 ∗ dutyTok (ER (F := F)) (bar (nx c)) 0 1 ∗ dutyTok (ER (F := F)) (bar (ny c)) 0 2)
/-- The three neighbours' barriers are in use. -/
def barRch : sProp 𝕄 :=
  iprop(reached (ER (F := F)) (bar (nz c)) 0 ∗ reached (ER (F := F)) (bar (nx c)) 0 ∗ reached (ER (F := F)) (bar (ny c)) 0)
instance barRch_persistent : BI.Persistent (barRch (F := F) c) := by unfold barRch; infer_instance

theorem pBar_eq : pBar (F := F) c = (Prog.op (TpuEff.semSignal (nz c : Thread nD τ) barS 1) fun _ =>
    Prog.op (TpuEff.semSignal (nx c : Thread nD τ) barS 1) fun _ => Prog.op (TpuEff.semSignal (ny c : Thread nD τ) barS 1) fun _ =>
    Prog.op (TpuEff.semWait barS 3) Prog.ret : P F) := rfl

/-- The barrier. -/
theorem wp_pBar (Q : PUnit → sProp 𝕄) :
    iprop(invs A K ∗ levAts L lv ∗ barRch (F := F) c ∗ ow (F := F) c (O₀ c) ∗ barToks (F := F) c ∗ lends (F := F) c
        ∗ cred (tallyAt (bar c) () 3) ∗ atPos (ER (F := F)) (bar c) 0 ∅ 0
        ∗ (ow (F := F) c (oZ c) ∗ atPos (ER (F := F)) (bar c) 1 ∅ 0
            ∗ (barPay (F := F) c 0 ∗ barPay (F := F) c 1 ∗ barPay (F := F) c 2) -∗ Q ⟨⟩))
      ⊢ wpc c (pBar c) Q := by
  rw [pBar_eq]
  unfold ow barToks barRch lends
  iintro ⟨#HI, #Hlev, ⟨#Hrz, #Hrx, #Hry⟩, ⟨%W, HO⟩, ⟨Htz, Htx, Hty⟩, ⟨Hlz, Hlx, Hly⟩, Hc, Hat, Hk⟩
  iapply (Rounds.wp_signal 𝒱₀ (ER (F := F)) (Rd A) (c : Thread nD τ) none (dst := (nz c : Thread nD τ)) (sem := barS) (r := 0) (d := 0) (κ := K (bar (nz c)))
      (by rw [duties_bar]; exact Finset.mem_univ _) (amount_bar A (nz c) 0) () (oZ c + tallyAt (bar (ny c)) () 1 + tallyAt (bar (nx c)) () 1) rfl)
    $$ [HO Htz Hlz]
  · isplitr; · iapply (inv_bar A K (nz c)); iexact HI
    isplitl [HO]; · iexact HO
    isplitl [Htz]; · iexact Htz
    isplitl [Hlz]; · rw [← lend0]; iexact Hlz
    iexact Hrz
  iintro HO
  iapply (Rounds.wp_signal 𝒱₀ (ER (F := F)) (Rd A) (c : Thread nD τ) none (dst := (nx c : Thread nD τ)) (sem := barS) (r := 0) (d := 1) (κ := K (bar (nx c)))
      (by rw [duties_bar]; exact Finset.mem_univ _) (amount_bar A (nx c) 1) () (oZ c + tallyAt (bar (ny c)) () 1) rfl)
    $$ [HO Htx Hlx]
  · isplitr; · iapply (inv_bar A K (nx c)); iexact HI
    isplitl [HO]; · iexact HO
    isplitl [Htx]; · iexact Htx
    isplitl [Hlx]; · rw [← lend1]; iexact Hlx
    iexact Hrx
  iintro HO
  iapply (Rounds.wp_signal 𝒱₀ (ER (F := F)) (Rd A) (c : Thread nD τ) none (dst := (ny c : Thread nD τ)) (sem := barS) (r := 0) (d := 2) (κ := K (bar (ny c)))
      (by rw [duties_bar]; exact Finset.mem_univ _) (amount_bar A (ny c) 2) () (oZ c) rfl)
    $$ [HO Hty Hly]
  · isplitr; · iapply (inv_bar A K (ny c)); iexact HI
    isplitl [HO]; · iexact HO
    isplitl [Hty]; · iexact Hty
    isplitl [Hly]; · rw [← lend2]; iexact Hly
    iexact Hry
  iintro HO
  iapply (Rounds.wp_wait_rest_token 𝒱₀ (ER (F := F)) (Rd A) (c : Thread nD τ) none (κ := K (bar c))
      (wpE_semWait_eq 𝒱₀ (c : Thread nD τ) none Set.univ) (Set.mem_univ _) () (O := oZ c) (W := W) (R := 0) (m := 0) (T := ∅)
      ((Nat.zero_add _).trans (expect_bar A c).symm)) $$ [Hc HO Hat]
  · isplitr; · iapply (inv_bar A K c); iexact HI
    isplitl [Hc]; · iexact Hc
    isplitl [HO]; · iexact HO
    isplitr; · iapply (mayWait c (.reg barS) (above_oZ c)); iexact Hlev
    iexact Hat
  iintro ⟨HO, Hat, -, Hpay⟩
  ihave Hp := (Entails.of_eq (rest_bar A c)) $$ Hpay
  rw [wp_ret]
  imodintro
  iapply Hk
  isplitl [HO]; · iexists _; iexact HO
  isplitl [Hat]; · iexact Hat
  iexact Hp

theorem amt_lc0 : amt (lcS0 : DmaSem sig).val = NS := by rw [lc0_val]; exact if_pos rfl
theorem amt_lc1 : amt (lcS1 : DmaSem sig).val = NL := by rw [lc1_val]; exact (if_neg (by decide)).trans (if_pos rfl)

/-- A whole buffer at contents not chosen. -/
abbrev ptAny (b : Ref sig .tc) : sProp 𝕄 := iprop(∃ f, pt (F := F) c b f)

/-- Both local copies started, the first landed. -/
theorem wp_pLoc (O : CellTallies nD τ sig Unit) (hO : Above 0 O) (Q : PUnit → sProp 𝕄) :
    iprop(invs A K ∗ levAts L lv ∗ rch (F := F) c ∗ ow (F := F) c O
        ∗ dutyTok (ER (F := F)) (dm c lcS0) 0 0 ∗ dutyTok (ER (F := F)) (dm c lcS1) 0 0 ∗ atPos (ER (F := F)) (dm c lcS0) 0 ∅ 0
        ∗ srcSPt A c qa ∗ srcLPt A c qb ∗ ptAny (F := F) c cc0_scratch1 ∗ ptAny (F := F) c cc0_scratch0
        ∗ (ow (F := F) c O ∗ atPos (ER (F := F)) (dm c lcS0) 1 ∅ 0 ∗ cred (tallyAt (dm c lcS1) () NL)
            ∗ pt c cc0_scratch1 (stageC A c) ∗ srcSPt A c qa -∗ Q ⟨⟩))
      ⊢ wpc c (pLoc c) Q := by
  unfold pLoc ow
  show _ ⊢ wp frame _ Set.univ (.op _ fun _ => .op _ fun _ => .op _ .ret) Q
  iintro ⟨#HI, #Hlev, #Hr, ⟨%W, HO⟩, Ht0, Ht1, Hat, HsS, HsL, ⟨%f1, H1⟩, ⟨%f0, H0⟩, Hk⟩
  iapply (Rounds.wp_copy_pointsTo 𝒱₀ (ER (F := F)) (Rd A) (c : Thread nD τ) none (src := srcS c) (dst := mS) (sem := .dma lcS0) (q := qa)
      (fs := A c) (fd := f1) (r := 0) (d := 0) (κ := K (dm c lcS0))
      (by rw [duties_dm A c _ (by rw [lc0_val])]; exact Finset.mem_singleton_self _) () NS rfl ((amount_dm A c lcS0 0).trans amt_lc0)
      (by
        show _ ⊢ dmaPay A c (lcS0 : DmaSem sig).val
        rw [pay_lc0]
        exact sep_mono (Entails.of_eq (pointsTo_congr (write_agrees (mS : Memref sig .tc .vmem S512x2048 .f32).view f1 (stageC A c) _ rfl))) .rfl))
    $$ [HsS H1 Ht0]
  · isplitr; · iapply (inv_dm A K c lcS0 (by rw [lc0_val])); iexact HI
    isplitl [HsS]; · iexact HsS
    isplitl [H1]; · iexact H1
    isplitl [Ht0]; · iexact Ht0
    iapply (rch_at c lcS0 (by rw [lc0_val])); iexact Hr
  iintro Hc0
  iapply (Rounds.wp_copy_pointsTo 𝒱₀ (ER (F := F)) (Rd A) (c : Thread nD τ) none (src := srcL c) (dst := mL) (sem := .dma lcS1) (q := qb)
      (fs := A c) (fd := f0) (r := 0) (d := 0) (κ := K (dm c lcS1))
      (by rw [duties_dm A c _ (by rw [lc1_val]; decide)]; exact Finset.mem_singleton_self _) () NL rfl ((amount_dm A c lcS1 0).trans amt_lc1)
      (by
        show _ ⊢ dmaPay A c (lcS1 : DmaSem sig).val
        rw [pay_lc1]
        exact sep_mono (Entails.of_eq (pointsTo_congr (write_agrees (mL : Memref sig .tc .vmem S2048x2048 .f32).view f0 (lC A c) _ rfl))) .rfl))
    $$ [HsL H0 Ht1]
  · isplitr; · iapply (inv_dm A K c lcS1 (by rw [lc1_val]; decide)); iexact HI
    isplitl [HsL]; · iexact HsL
    isplitl [H0]; · iexact H0
    isplitl [Ht1]; · iexact Ht1
    iapply (rch_at c lcS1 (by rw [lc1_val]; decide)); iexact Hr
  iintro Hc1
  iapply (Rounds.wp_wait_rest_token 𝒱₀ (ER (F := F)) (Rd A) (c : Thread nD τ) none (κ := K (dm c lcS0))
      (wpE_waitDma2_eq (src := srcS c) (dst := mS) 𝒱₀ (c : Thread nD τ) none Set.univ) (Set.mem_univ _) () (O := O) (W := W) (R := 0) (m := 0) (T := ∅)
      ((Nat.zero_add _).trans (amt_lc0.symm.trans (expect_dm A c lcS0 (by rw [lc0_val])).symm))) $$ [Hc0 HO Hat]
  · isplitr; · iapply (inv_dm A K c lcS0 (by rw [lc0_val])); iexact HI
    isplitl [Hc0]; · iexact Hc0
    isplitl [HO]; · iexact HO
    isplitr; · iapply (mayWait c (.dma lcS0) (by rw [lv_lc0]; exact hO)); iexact Hlev
    iexact Hat
  iintro ⟨HO, Hat, -, Hpay⟩
  ihave Hp := (Entails.of_eq ((rest_dm A c lcS0 (by rw [lc0_val])).trans (pay_lc0 A c))) $$ Hpay
  rw [wp_ret]
  imodintro
  iapply Hk
  isplitl [HO]; · iexists _; iexact HO
  isplitl [Hat]; · iexact Hat
  isplitl [Hc1]; · iexact Hc1
  iexact Hp

/-- The second local copy landed. -/
theorem wp_pLoc2 (O : CellTallies nD τ sig Unit) (hO : Above 0 O) (Q : PUnit → sProp 𝕄) :
    iprop(invs A K ∗ levAts L lv ∗ ow (F := F) c O ∗ cred (tallyAt (dm c lcS1) () NL) ∗ atPos (ER (F := F)) (dm c lcS1) 0 ∅ 0
        ∗ (ow (F := F) c O ∗ atPos (ER (F := F)) (dm c lcS1) 1 ∅ 0 ∗ pt c cc0_scratch0 (lC A c) ∗ srcLPt A c qb -∗ Q ⟨⟩))
      ⊢ wpc c (pLoc2 c) Q := by
  unfold pLoc2 ow
  show _ ⊢ wp frame _ Set.univ (.op _ .ret) Q
  iintro ⟨#HI, #Hlev, ⟨%W, HO⟩, Hc, Hat, Hk⟩
  iapply (Rounds.wp_wait_rest_token 𝒱₀ (ER (F := F)) (Rd A) (c : Thread nD τ) none (κ := K (dm c lcS1))
      (wpE_waitDma2_eq (src := srcL c) (dst := mL) 𝒱₀ (c : Thread nD τ) none Set.univ) (Set.mem_univ _) () (O := O) (W := W) (R := 0) (m := 0) (T := ∅)
      ((Nat.zero_add _).trans (amt_lc1.symm.trans (expect_dm A c lcS1 (by rw [lc1_val]; decide)).symm))) $$ [Hc HO Hat]
  · isplitr; · iapply (inv_dm A K c lcS1 (by rw [lc1_val]; decide)); iexact HI
    isplitl [Hc]; · iexact Hc
    isplitl [HO]; · iexact HO
    isplitr; · iapply (mayWait c (.dma lcS1) (by rw [lv_lc1]; exact hO)); iexact Hlev
    iexact Hat
  iintro ⟨HO, Hat, -, Hpay⟩
  ihave Hp := (Entails.of_eq ((rest_dm A c lcS1 (by rw [lc1_val]; decide)).trans (pay_lc1 A c))) $$ Hpay
  rw [wp_ret]
  imodintro
  iapply Hk
  isplitl [HO]; · iexists _; iexact HO
  isplitl [Hat]; · iexact Hat
  iexact Hp

end Cert.Proof.K

end
-- ==== Proof.Loops.lean ====
/-
The loops of the body: a rule for a list of groups, and each loop's triple.
-/
module

public import proofs.«01_k».proof.Proof.Start
public import Idealize.ShloMosaic.Lib.Pipeline.BigSepL

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (c : Dev nD)

/-! ## Chains of pieces -/

/-- A chain runs its first piece and then the rest. -/
theorem wpc_cons (p : P F) (l : List (P F)) (Q : PUnit → sProp 𝕄) :
    wpc c (Pipeline.chain (p :: l)) Q = wpc c p (fun _ => wpc c (Pipeline.chain l) Q) := by
  rw [Pipeline.chain_cons]; exact wp_bind _ _ _ _ _ _

/-- The empty chain ends at once. -/
theorem wpc_nil (Q : PUnit → sProp 𝕄) : Q ⟨⟩ ⊢ wpc c (Pipeline.chain ([] : List (P F))) Q := by
  show _ ⊢ wp frame _ Set.univ (.ret PUnit.unit) Q
  rw [wp_ret]
  iintro H; imodintro; iexact H

/-- Two chains, one after the other. -/
theorem wpc_append (Q : PUnit → sProp 𝕄) (l' : List (P F)) : ∀ l : List (P F),
    wpc c (Pipeline.chain l) (fun _ => wpc c (Pipeline.chain l') Q) ⊢ wpc c (Pipeline.chain (l ++ l')) Q
  | [] => by
    show wp frame _ Set.univ (.ret PUnit.unit : P F) (fun _ => wpc c (Pipeline.chain l') Q) ⊢ _
    rw [wp_ret]; exact fupd_wp _ _ _ _ _
  | p :: l => by
    rw [List.cons_append, wpc_cons, wpc_cons]
    exact wp_mono _ _ _ fun _ => wpc_append Q l' l

/-- A loop over a list: each round turns its own resource, under a common one that runs along the list. -/
theorem wpc_list {α : Type} (g : α → List (P F)) (T : List α → sProp 𝕄) (R R' : α → sProp 𝕄)
    (h : ∀ a l', iprop(T (a :: l') ∗ R a) ⊢ wpc c (Pipeline.chain (g a)) (fun _ => iprop(T l' ∗ R' a))) : ∀ l : List α,
    iprop(T l ∗ bigSepL l R) ⊢ wpc c (Pipeline.chain (l.flatMap g)) (fun _ => iprop(T [] ∗ bigSepL l R'))
  | [] => wpc_nil c (fun _ => iprop(T [] ∗ bigSepL [] R'))
  | a :: l => by
    rw [List.flatMap_cons]
    refine BI.Entails.trans ?_ (wpc_append c _ _ _)
    rw [bigSepL_cons', bigSepL_cons']
    refine BI.Entails.trans (Q := iprop((T (a :: l) ∗ R a) ∗ bigSepL l R)) sep_assoc' ?_
    refine BI.Entails.trans (sep_mono (h a l) .rfl) ?_
    refine BI.Entails.trans (wp_frame_r _ _ _) (wp_mono _ _ _ fun _ => ?_)
    iintro ⟨⟨HT, Ha⟩, Hl⟩
    iapply (wp_wand _ _ _ (Q := fun _ => iprop(T [] ∗ bigSepL l R'))) $$ [HT Hl]
    · iapply (wpc_list g T R R' h l); isplitl [HT]; · iexact HT
      iexact Hl
    iintro %_ ⟨HT, Hl⟩
    isplitl [HT]; · iexact HT
    isplitl [Ha]; · iexact Ha
    iexact Hl

/-- A loop of sixteen steps from the triple of one. -/
theorem wpc_all16 (g : Fin 16 → List (P F)) (T : List (Fin 16) → sProp 𝕄) (R R' : Fin 16 → sProp 𝕄)
    (h : ∀ a l', iprop(T (a :: l') ∗ R a) ⊢ wpc c (Pipeline.chain (g a)) (fun _ => iprop(T l' ∗ R' a))) :
    iprop(T all16 ∗ bigSep Finset.univ R) ⊢ wpc c (Pipeline.chain (all16.flatMap g)) (fun _ => iprop(T [] ∗ bigSep Finset.univ R')) := by
  rw [bigSep_univ_eq_bigSepL all16 (by decide) (by decide) R, bigSep_univ_eq_bigSepL all16 (by decide) (by decide) R']
  exact wpc_list c g T R R' h all16

/-- A loop of eight steps from the triple of one. -/
theorem wpc_all8 (g : Fin 8 → List (P F)) (T : List (Fin 8) → sProp 𝕄) (R R' : Fin 8 → sProp 𝕄)
    (h : ∀ a l', iprop(T (a :: l') ∗ R a) ⊢ wpc c (Pipeline.chain (g a)) (fun _ => iprop(T l' ∗ R' a))) :
    iprop(T all8 ∗ bigSep Finset.univ R) ⊢ wpc c (Pipeline.chain (all8.flatMap g)) (fun _ => iprop(T [] ∗ bigSep Finset.univ R')) := by
  rw [bigSep_univ_eq_bigSepL all8 (by decide) (by decide) R, bigSep_univ_eq_bigSepL all8 (by decide) (by decide) R']
  exact wpc_list c g T R R' h all8

end Cert.Proof.K

end
-- ==== Proof.Groups.lean ====
/-
What each group of the body takes and leaves, one chunk at a time.
-/
module

public import proofs.«01_k».proof.Proof.Loops

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → main_arg0.ty.Contents (Elt F)) (G : Dev nD → cc0_stg0_0.ty.Contents (Elt F))
  (K : GSem nD τ sig → ℕ) (c : Dev nD)

/-! ## Names for what travels along -/

/-- The persistent part. -/
def pers : sProp 𝕄 := iprop(invs A K ∗ levAts L lv ∗ rch (F := F) c)
instance pers_persistent : BI.Persistent (pers A K c) := by unfold pers; infer_instance

/-- A wait still to come on semaphore `s`: its credit and the cell's place. -/
def todo (s : DmaSem sig) : sProp 𝕄 := iprop(cred (tallyAt (dm c s) () N) ∗ atPos (ER (F := F)) (dm c s) 0 ∅ 0)
/-- The wait is done. -/
def done (s : DmaSem sig) : sProp 𝕄 := atPos (ER (F := F)) (dm c s) 1 ∅ 0
/-- The right to land one chunk of `B` on device `e`, and the duty that pays for it. -/
def goal (B : Memref sig .tc .vmem S512x2048 .fp8e4m3) (t : DmaSem sig) (e : Dev nD) (r : Fin 16) : sProp 𝕄 :=
  iprop((chkAny (F := F) B e r ∗ reached (ER (F := F)) (dm e t) 0) ∗ dutyTok (ER (F := F)) (dm e t) 0 0)
/-- A send still to start on the own semaphore `s`: its duty. -/
def tok (s : DmaSem sig) : sProp 𝕄 := dutyTok (ER (F := F)) (dm c s) 0 0
/-- The credit of a send that is under way, and the cell's place. -/
def sent (s : DmaSem sig) : sProp 𝕄 := cred (tallyAt (dm c s) () N)

theorem ge4 {s : DmaSem sig} {a b : ℕ} (h : s.val = a + b) (ha : 4 ≤ a) : 4 ≤ s.val := by omega

/-! ## A chunk's shares -/

/-- A chunk as three shares. -/
theorem chk_split3 (B : Memref sig .tc .vmem S512x2048 .fp8e4m3) (r : Fin 16) (f : B.view.ty.Contents (Elt F)) :
    chk B c r fullShare f ⊢ iprop(chk B c r q1 f ∗ chk B c r q2 f ∗ chk B c r q3 f) :=
  BI.Entails.trans (pointsTo_share (PosShare.mem_left_op_right fullShare)).1
    (sep_mono .rfl (pointsTo_share (PosShare.mem_left_op_right (fullShare : PosShare TreeShare).right)).1)
/-- Three shares make a chunk. -/
theorem chk_join3 (B : Memref sig .tc .vmem S512x2048 .fp8e4m3) (r : Fin 16) (f : B.view.ty.Contents (Elt F)) :
    iprop(chk B c r q1 f ∗ chk B c r q2 f ∗ chk B c r q3 f) ⊢ chk B c r fullShare f :=
  BI.Entails.trans (sep_mono .rfl (pointsTo_share (PosShare.mem_left_op_right (fullShare : PosShare TreeShare).right)).2)
    (pointsTo_share (PosShare.mem_left_op_right fullShare)).2
/-- A chunk as two shares. -/
theorem chk_split2 (B : Memref sig .tc .vmem S512x2048 .fp8e4m3) (r : Fin 16) (f : B.view.ty.Contents (Elt F)) :
    chk B c r fullShare f ⊢ iprop(chk B c r qa f ∗ chk B c r qb f) :=
  (pointsTo_share (PosShare.mem_left_op_right fullShare)).1
/-- Two shares make a chunk. -/
theorem chk_join2 (B : Memref sig .tc .vmem S512x2048 .fp8e4m3) (r : Fin 16) (f : B.view.ty.Contents (Elt F)) :
    iprop(chk B c r qa f ∗ chk B c r qb f) ⊢ chk B c r fullShare f :=
  (pointsTo_share (PosShare.mem_left_op_right fullShare)).2

/-! ## The rules again, in these names -/

/-- A remote copy of a chunk: the source share and the landing chunk go in, and the credit of the send comes out. -/
theorem r_send (A' B' : Memref sig .tc .vmem S512x2048 .fp8e4m3) (hA : A'.IsWhole) (hB : B'.IsWhole) (e : Dev nD) (r : Fin 16)
    (s t : DmaSem sig) (hs : 4 ≤ s.val) (ht : 4 ≤ t.val) (hN : (cut B' r).view.dmaCredit = N)
    (q : PosShare TreeShare) (fA : A'.view.ty.Contents (Elt F)) (fB : B'.view.ty.Contents (Elt F))
    (hv : (cut B' r).view.read (Elt F) fB = (cut A' r).view.read (Elt F) fA)
    (hp₁ : chk A' c r q fA = dmaPay A c s.val) (hp₂ : chk B' e r fullShare fB = dmaPay A e t.val)
    (O O' : CellTallies nD τ sig Unit) (hO : O' = O + tallyAt (dm e t) () N) (Q : PUnit → sProp 𝕄) :
    iprop(pers A K c ∗ chk A' c r q fA ∗ goal (F := F) B' t e r ∗ ow (F := F) c O' ∗ tok (F := F) c s
        ∗ (sent (F := F) c s ∗ ow (F := F) c O -∗ Q ⟨⟩))
      ⊢ wpc c (pSend A' B' hA hB e r s t) Q := by
  subst hO
  unfold pers goal tok sent
  iintro ⟨⟨#HI, -, #Hr⟩, HA, ⟨⟨HB, #Hre⟩, Htt⟩, HO, Hts, Hk⟩
  iapply (wp_pSend A K c A' B' hA hB e r s t hs ht hN q fA fB hv hp₁ hp₂ O Q)
  isplitr; · iexact HI
  isplitr; · iexact Hr
  isplitr; · iexact Hre
  isplitl [HA]; · iexact HA
  isplitl [HB]; · iexact HB
  isplitl [HO]; · iexact HO
  isplitl [Hts]; · iexact Hts
  isplitl [Htt]; · iexact Htt
  iexact Hk

/-- A wait on one transfer: the cell's payload comes out. -/
theorem r_wait (A' B' : Memref sig .tc .vmem S512x2048 .fp8e4m3) (hA : A'.IsWhole) (hB : B'.IsWhole) (r : Fin 16)
    (s : DmaSem sig) (hs : 4 ≤ s.val) (hN : (cut B' r).view.dmaCredit = N) (n : ℕ) (hn : lvOf (.dma s) ≤ n)
    (O : CellTallies nD τ sig Unit) (hO : Above n O) (X : sProp 𝕄) (hX : dmaPay A c s.val = X) (Q : PUnit → sProp 𝕄) :
    iprop(pers A K c ∗ ow (F := F) c O ∗ todo (F := F) c s ∗ (ow (F := F) c O ∗ done (F := F) c s ∗ X -∗ Q ⟨⟩))
      ⊢ wpc c (pWait A' B' hA hB r s) Q := by
  subst hX
  unfold pers todo done
  iintro ⟨⟨#HI, #Hlev, -⟩, HO, ⟨Hc, Hat⟩, Hk⟩
  iapply (wp_pWait A K c A' B' hA hB r s hs hN O (hO.mono hn) Q)
  isplitr; · iexact HI
  isplitr; · iexact Hlev
  isplitl [HO]; · iexact HO
  isplitl [Hc]; · iexact Hc
  isplitl [Hat]; · iexact Hat
  iexact Hk

/-! ## To the partner -/

/-- What the sends to the partner carry along. -/
def TZ (l : List (Fin 16)) : sProp 𝕄 :=
  iprop(pers A K c ∗ ow (F := F) c (sumL (tZ c) l + oF c) ∗ pt c cc0_scratch1 (stageC A c))
/-- What one of them takes. -/
def RZ (r : Fin 16) : sProp 𝕄 :=
  iprop(chkAny (F := F) mZs c r ∗ tok (F := F) c (zsS r) ∗ goal (F := F) mZ (zrS r) (nz c) r)

/-- One chunk narrowed and sent to the partner. -/
theorem group_Z (r : Fin 16) (l : List (Fin 16)) :
    iprop(TZ A K c (r :: l) ∗ RZ (F := F) c r) ⊢ wpc c (Pipeline.chain (gZ c r)) (fun _ => iprop(TZ A K c l ∗ sent (F := F) c (zsS r))) := by
  unfold TZ RZ gZ
  rw [wpc_cons, wpc_cons]
  iintro ⟨⟨#HP, HO, HS⟩, HZ, Ht, Hg⟩
  iapply (wp_pNarrow A c r)
  isplitl [HS]; · iexact HS
  isplitl [HZ]; · iexact HZ
  iintro ⟨HS, HZ⟩
  iapply (r_send A K c mZs mZ wZs wZ (nz c) r (zsS r) (zrS r) (ge4 (zs_val r) (by decide)) (ge4 (zr_val r) (by decide)) rfl fullShare (cZ A c) (cZ A c)
    rfl (pay_zs A c r).symm (by rw [pay_zr, nz_nz]) (sumL (tZ c) l + oF c) _ (add_right_comm _ _ _))
  isplitr; · iexact HP
  isplitl [HZ]; · iexact HZ
  isplitl [Hg]; · iexact Hg
  isplitl [HO]; · iexact HO
  isplitl [Ht]; · iexact Ht
  iintro ⟨Hs, HO⟩
  iapply (wpc_nil c (fun _ => iprop((pers A K c ∗ ow (F := F) c (sumL (tZ c) l + oF c) ∗ pt c cc0_scratch1 (stageC A c)) ∗ sent (F := F) c (zsS r))))
  isplitl [HO HS]
  · isplitr; · iexact HP
    isplitl [HO]; · iexact HO
    iexact HS
  iexact Hs

/-! ## From the partner, on to x and y -/

/-- What the loops of the normalisation carry along. -/
def TO (O : CellTallies nD τ sig Unit) : sProp 𝕄 := iprop(pers A K c ∗ ow (F := F) c O ∗ ro A G c)
/-- What one step of the first of them takes. -/
def RF (r : Fin 16) : sProp 𝕄 :=
  iprop(todo (F := F) c (zrS r) ∗ tok (F := F) c (xsS r) ∗ goal (F := F) mX (xrS r) (nx c) r
    ∗ tok (F := F) c (ysS r) ∗ goal (F := F) mY (yrS r) (ny c) r ∗ oAny (F := F) c (qm c) r)
/-- What it leaves. -/
def RF' (r : Fin 16) : sProp 𝕄 :=
  iprop(done (F := F) c (zrS r) ∗ sent (F := F) c (xsS r) ∗ sent (F := F) c (ysS r) ∗ chk mZ c r q3 (cZ A (nz c))
    ∗ oblk c (qm c) r (tgt A G c))

theorem tF_step (r : Fin 16) (l : List (Fin 16)) : sumL (tF c) (r :: l) + oA c
    = sumL (tF c) l + oA c + tallyAt (dm (ny c) (yrS r)) () N + tallyAt (dm (nx c) (xrS r)) () N := by
  rw [show sumL (tF c) (r :: l) = sumL (tF c) l + tF c r from rfl, add_right_comm]
  exact (add_assoc _ _ _).symm

/-- Thirty-two rows normalised, from a chunk of the partner. -/
theorem pOut_Z (r : Fin 16) (Q : PUnit → sProp 𝕄) :
    iprop(ro A G c ∗ chk mZ c r q3 (cZ A (nz c)) ∗ oAny (F := F) c (qm c) r
        ∗ (ro A G c ∗ chk mZ c r q3 (cZ A (nz c)) ∗ oblk c (qm c) r (tgt A G c) -∗ Q ⟨⟩))
      ⊢ wpc c (pOut mZ r (o3 c r) (k0_off3_inb c r)) Q :=
  wp_pOut A G c mZ (qm c) r (o3 c r) (k0_off3_inb c r) (o3_eq c r) q3 (cZ A (nz c)) (by rw [qd_m]; rfl) Q

/-- One chunk from the partner: taken, forwarded twice, normalised. -/
theorem group_F (r : Fin 16) (l : List (Fin 16)) :
    iprop(TO A G K c (sumL (tF c) (r :: l) + oA c) ∗ RF (F := F) c r)
      ⊢ wpc c (Pipeline.chain (gF c r)) (fun _ => iprop(TO A G K c (sumL (tF c) l + oA c) ∗ RF' A G c r)) := by
  unfold TO RF RF' gF
  rw [wpc_cons, wpc_cons, wpc_cons, wpc_cons]
  iintro ⟨⟨#HP, HO, Hro⟩, Hw, Htx, Hgx, Hty, Hgy, Ho⟩
  iapply (r_wait A K c mZs mZ wZs wZ r (zrS r) (ge4 (zr_val r) (by decide)) rfl 2 (le_of_eq (lv_zr r)) _
    ((Above.sumL (above_tF c) _).add ((above_oA c).mono (by decide))) _ (pay_zr A c r))
  isplitr; · iexact HP
  isplitl [HO]; · iexact HO
  isplitl [Hw]; · iexact Hw
  iintro ⟨HO, Hd, HZ⟩
  ihave H3 := (chk_split3 c mZ r (cZ A (nz c))) $$ HZ
  icases H3 with ⟨H1, H2, H3⟩
  iapply (r_send A K c mZ mX wZ wX (nx c) r (xsS r) (xrS r) (ge4 (xs_val r) (by decide)) (ge4 (xr_val r) (by decide)) rfl q1 (cZ A (nz c)) (cZ A (nz c))
    rfl (pay_xs A c r).symm (by rw [pay_xr, nx_nx]) (sumL (tF c) l + oA c + tallyAt (dm (ny c) (yrS r)) () N) _ (tF_step c r l))
  isplitr; · iexact HP
  isplitl [H1]; · iexact H1
  isplitl [Hgx]; · iexact Hgx
  isplitl [HO]; · iexact HO
  isplitl [Htx]; · iexact Htx
  iintro ⟨Hsx, HO⟩
  iapply (r_send A K c mZ mY wZ wY (ny c) r (ysS r) (yrS r) (ge4 (ys_val r) (by decide)) (ge4 (yr_val r) (by decide)) rfl q2 (cZ A (nz c)) (cZ A (nz c))
    rfl (pay_ys A c r).symm (by rw [pay_yr, ny_ny]) (sumL (tF c) l + oA c) _ rfl)
  isplitr; · iexact HP
  isplitl [H2]; · iexact H2
  isplitl [Hgy]; · iexact Hgy
  isplitl [HO]; · iexact HO
  isplitl [Hty]; · iexact Hty
  iintro ⟨Hsy, HO⟩
  iapply (pOut_Z A G c r)
  isplitl [Hro]; · iexact Hro
  isplitl [H3]; · iexact H3
  isplitl [Ho]; · iexact Ho
  iintro ⟨Hro, H3, Ho⟩
  iapply (wpc_nil c (fun _ => iprop((pers A K c ∗ ow (F := F) c (sumL (tF c) l + oA c) ∗ ro A G c)
    ∗ done (F := F) c (zrS r) ∗ sent (F := F) c (xsS r) ∗ sent (F := F) c (ysS r) ∗ chk mZ c r q3 (cZ A (nz c)) ∗ oblk c (qm c) r (tgt A G c))))
  isplitl [HO Hro]
  · isplitr; · iexact HP
    isplitl [HO]; · iexact HO
    iexact Hro
  isplitl [Hd]; · iexact Hd
  isplitl [Hsx]; · iexact Hsx
  isplitl [Hsy]; · iexact Hsy
  isplitl [H3]; · iexact H3
  iexact Ho

/-! ## From x and y; half of it on to the diagonal -/

/-- Thirty-two rows normalised, from a chunk over x. -/
theorem pOut_X (r : Fin 16) (q : PosShare TreeShare) (Q : PUnit → sProp 𝕄) :
    iprop(ro A G c ∗ chk mX c r q (cZ A (nz (nx c))) ∗ oAny (F := F) c (qx c) r
        ∗ (ro A G c ∗ chk mX c r q (cZ A (nz (nx c))) ∗ oblk c (qx c) r (tgt A G c) -∗ Q ⟨⟩))
      ⊢ wpc c (pOut mX r (o4 c r) (k0_off4_inb c r)) Q :=
  wp_pOut A G c mX (qx c) r (o4 c r) (k0_off4_inb c r) (o4_eq c r) q (cZ A (nz (nx c))) (by rw [qd_x]; rfl) Q
/-- Thirty-two rows normalised, from a chunk over y. -/
theorem pOut_Y (r : Fin 16) (q : PosShare TreeShare) (Q : PUnit → sProp 𝕄) :
    iprop(ro A G c ∗ chk mY c r q (cZ A (nz (ny c))) ∗ oAny (F := F) c (qy c) r
        ∗ (ro A G c ∗ chk mY c r q (cZ A (nz (ny c))) ∗ oblk c (qy c) r (tgt A G c) -∗ Q ⟨⟩))
      ⊢ wpc c (pOut mY r (o5 c r) (k0_off5_inb c r)) Q :=
  wp_pOut A G c mY (qy c) r (o5 c r) (k0_off5_inb c r) (o5_eq c r) q (cZ A (nz (ny c))) (by rw [qd_y]; rfl) Q

/-- What one of the first eight steps of the second loop takes. -/
def RA (k : Fin 8) : sProp 𝕄 :=
  iprop(todo (F := F) c (xrS (lo k)) ∗ todo (F := F) c (yrS (lo k)) ∗ tok (F := F) c (rxS k) ∗ goal (F := F) mD (drS (lo k)) (nx c) (lo k)
    ∗ oAny (F := F) c (qx c) (lo k) ∗ oAny (F := F) c (qy c) (lo k))
/-- What it leaves. -/
def RA' (k : Fin 8) : sProp 𝕄 :=
  iprop(done (F := F) c (xrS (lo k)) ∗ done (F := F) c (yrS (lo k)) ∗ sent (F := F) c (rxS k)
    ∗ chk mX c (lo k) fullShare (cZ A (nz (nx c))) ∗ chk mY c (lo k) qb (cZ A (nz (ny c)))
    ∗ oblk c (qx c) (lo k) (tgt A G c) ∗ oblk c (qy c) (lo k) (tgt A G c))

/-- One chunk from x and one from y; the latter goes on over x. -/
theorem group_A (k : Fin 8) (l : List (Fin 8)) :
    iprop(TO A G K c (sumL (tA c) (k :: l) + oB c) ∗ RA (F := F) c k)
      ⊢ wpc c (Pipeline.chain (gA c k)) (fun _ => iprop(TO A G K c (sumL (tA c) l + oB c) ∗ RA' A G c k)) := by
  have hab : Above 3 (sumL (tA c) (k :: l) + oB c) := (Above.sumL (above_tA c) _).add (above_oB c)
  unfold TO RA RA' gA
  rw [wpc_cons, wpc_cons, wpc_cons, wpc_cons, wpc_cons]
  iintro ⟨⟨#HP, HO, Hro⟩, Hwx, Hwy, Ht, Hg, Hox, Hoy⟩
  iapply (r_wait A K c mZ mX wZ wX (lo k) (xrS (lo k)) (ge4 (xr_val _) (by decide)) rfl 3 (le_of_eq (lv_xr _)) _ hab _ (pay_xr A c (lo k)))
  isplitr; · iexact HP
  isplitl [HO]; · iexact HO
  isplitl [Hwx]; · iexact Hwx
  iintro ⟨HO, Hdx, HX⟩
  iapply (pOut_X A G c (lo k) fullShare)
  isplitl [Hro]; · iexact Hro
  isplitl [HX]; · iexact HX
  isplitl [Hox]; · iexact Hox
  iintro ⟨Hro, HX, Hox⟩
  iapply (r_wait A K c mZ mY wZ wY (lo k) (yrS (lo k)) (ge4 (yr_val _) (by decide)) rfl 3 (le_of_eq (lv_yr _)) _ hab _ (pay_yr A c (lo k)))
  isplitr; · iexact HP
  isplitl [HO]; · iexact HO
  isplitl [Hwy]; · iexact Hwy
  iintro ⟨HO, Hdy, HY⟩
  ihave H2 := (chk_split2 c mY (lo k) (cZ A (nz (ny c)))) $$ HY
  icases H2 with ⟨Ha, Hb⟩
  iapply (r_send A K c mY mD wY wD (nx c) (lo k) (rxS k) (drS (lo k)) (ge4 (rx_val k) (by decide)) (ge4 (dr_val _) (by decide)) rfl qa
    (cZ A (nz (ny c))) (cZ A (nz (ny c))) rfl (pay_rx A c k).symm (by rw [pay_dr, ← nxy, nx_nx]) (sumL (tA c) l + oB c) _ (add_right_comm _ _ _))
  isplitr; · iexact HP
  isplitl [Ha]; · iexact Ha
  isplitl [Hg]; · iexact Hg
  isplitl [HO]; · iexact HO
  isplitl [Ht]; · iexact Ht
  iintro ⟨Hs, HO⟩
  iapply (pOut_Y A G c (lo k) qb)
  isplitl [Hro]; · iexact Hro
  isplitl [Hb]; · iexact Hb
  isplitl [Hoy]; · iexact Hoy
  iintro ⟨Hro, Hb, Hoy⟩
  iapply (wpc_nil c (fun _ => iprop((pers A K c ∗ ow (F := F) c (sumL (tA c) l + oB c) ∗ ro A G c)
    ∗ done (F := F) c (xrS (lo k)) ∗ done (F := F) c (yrS (lo k)) ∗ sent (F := F) c (rxS k)
    ∗ chk mX c (lo k) fullShare (cZ A (nz (nx c))) ∗ chk mY c (lo k) qb (cZ A (nz (ny c)))
    ∗ oblk c (qx c) (lo k) (tgt A G c) ∗ oblk c (qy c) (lo k) (tgt A G c))))
  isplitl [HO Hro]
  · isplitr; · iexact HP
    isplitl [HO]; · iexact HO
    iexact Hro
  isplitl [Hdx]; · iexact Hdx
  isplitl [Hdy]; · iexact Hdy
  isplitl [Hs]; · iexact Hs
  isplitl [HX]; · iexact HX
  isplitl [Hb]; · iexact Hb
  isplitl [Hox]; · iexact Hox
  iexact Hoy

/-- What one of the last eight steps takes. -/
def RB (k : Fin 8) : sProp 𝕄 :=
  iprop(todo (F := F) c (xrS (hi k)) ∗ todo (F := F) c (yrS (hi k)) ∗ tok (F := F) c (ryS k) ∗ goal (F := F) mD (drS (hi k)) (ny c) (hi k)
    ∗ oAny (F := F) c (qx c) (hi k) ∗ oAny (F := F) c (qy c) (hi k))
/-- What it leaves. -/
def RB' (k : Fin 8) : sProp 𝕄 :=
  iprop(done (F := F) c (xrS (hi k)) ∗ done (F := F) c (yrS (hi k)) ∗ sent (F := F) c (ryS k)
    ∗ chk mX c (hi k) qb (cZ A (nz (nx c))) ∗ chk mY c (hi k) fullShare (cZ A (nz (ny c)))
    ∗ oblk c (qx c) (hi k) (tgt A G c) ∗ oblk c (qy c) (hi k) (tgt A G c))

/-- One chunk from x and one from y; the former goes on over y. -/
theorem group_B (k : Fin 8) (l : List (Fin 8)) :
    iprop(TO A G K c (sumL (tB c) (k :: l)) ∗ RB (F := F) c k)
      ⊢ wpc c (Pipeline.chain (gB c k)) (fun _ => iprop(TO A G K c (sumL (tB c) l) ∗ RB' A G c k)) := by
  have hab : Above 3 (sumL (tB c) l) := Above.sumL (above_tB c) _
  have hab' : Above 3 (sumL (tB c) (k :: l)) := Above.sumL (above_tB c) _
  unfold TO RB RB' gB
  rw [wpc_cons, wpc_cons, wpc_cons, wpc_cons, wpc_cons]
  iintro ⟨⟨#HP, HO, Hro⟩, Hwx, Hwy, Ht, Hg, Hox, Hoy⟩
  iapply (r_wait A K c mZ mX wZ wX (hi k) (xrS (hi k)) (ge4 (xr_val _) (by decide)) rfl 3 (le_of_eq (lv_xr _)) _ hab' _ (pay_xr A c (hi k)))
  isplitr; · iexact HP
  isplitl [HO]; · iexact HO
  isplitl [Hwx]; · iexact Hwx
  iintro ⟨HO, Hdx, HX⟩
  ihave H2 := (chk_split2 c mX (hi k) (cZ A (nz (nx c)))) $$ HX
  icases H2 with ⟨Ha, Hb⟩
  iapply (r_send A K c mX mD wX wD (ny c) (hi k) (ryS k) (drS (hi k)) (ge4 (ry_val k) (by decide)) (ge4 (dr_val _) (by decide)) rfl qa
    (cZ A (nz (nx c))) (cZ A (nz (nx c))) rfl (pay_ry A c k).symm (by rw [pay_dr, ny_ny]) (sumL (tB c) l) _ rfl)
  isplitr; · iexact HP
  isplitl [Ha]; · iexact Ha
  isplitl [Hg]; · iexact Hg
  isplitl [HO]; · iexact HO
  isplitl [Ht]; · iexact Ht
  iintro ⟨Hs, HO⟩
  iapply (pOut_X A G c (hi k) qb)
  isplitl [Hro]; · iexact Hro
  isplitl [Hb]; · iexact Hb
  isplitl [Hox]; · iexact Hox
  iintro ⟨Hro, Hb, Hox⟩
  iapply (r_wait A K c mZ mY wZ wY (hi k) (yrS (hi k)) (ge4 (yr_val _) (by decide)) rfl 3 (le_of_eq (lv_yr _)) _ hab _ (pay_yr A c (hi k)))
  isplitr; · iexact HP
  isplitl [HO]; · iexact HO
  isplitl [Hwy]; · iexact Hwy
  iintro ⟨HO, Hdy, HY⟩
  iapply (pOut_Y A G c (hi k) fullShare)
  isplitl [Hro]; · iexact Hro
  isplitl [HY]; · iexact HY
  isplitl [Hoy]; · iexact Hoy
  iintro ⟨Hro, HY, Hoy⟩
  iapply (wpc_nil c (fun _ => iprop((pers A K c ∗ ow (F := F) c (sumL (tB c) l) ∗ ro A G c)
    ∗ done (F := F) c (xrS (hi k)) ∗ done (F := F) c (yrS (hi k)) ∗ sent (F := F) c (ryS k)
    ∗ chk mX c (hi k) qb (cZ A (nz (nx c))) ∗ chk mY c (hi k) fullShare (cZ A (nz (ny c)))
    ∗ oblk c (qx c) (hi k) (tgt A G c) ∗ oblk c (qy c) (hi k) (tgt A G c))))
  isplitl [HO Hro]
  · isplitr; · iexact HP
    isplitl [HO]; · iexact HO
    iexact Hro
  isplitl [Hdx]; · iexact Hdx
  isplitl [Hdy]; · iexact Hdy
  isplitl [Hs]; · iexact Hs
  isplitl [Hb]; · iexact Hb
  isplitl [HY]; · iexact HY
  isplitl [Hox]; · iexact Hox
  iexact Hoy

end Cert.Proof.K

end
-- ==== Proof.Tail.lean ====
/-
The last groups of the body: the diagonal's chunks, and the waits on the own sends.
-/
module

public import proofs.«01_k».proof.Proof.Groups

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → main_arg0.ty.Contents (Elt F)) (G : Dev nD → cc0_stg0_0.ty.Contents (Elt F))
  (K : GSem nD τ sig → ℕ) (c : Dev nD)

/-- Thirty-two rows normalised, from a chunk of the diagonal core. -/
theorem pOut_D (r : Fin 16) (Q : PUnit → sProp 𝕄) :
    iprop(ro A G c ∗ chk mD c r fullShare (cZ A (nz (nx (ny c)))) ∗ oAny (F := F) c (qw c) r
        ∗ (ro A G c ∗ chk mD c r fullShare (cZ A (nz (nx (ny c)))) ∗ oblk c (qw c) r (tgt A G c) -∗ Q ⟨⟩))
      ⊢ wpc c (pOut mD r (o6 c r) (k0_off6_inb c r)) Q :=
  wp_pOut A G c mD (qw c) r (o6 c r) (k0_off6_inb c r) (o6_eq c r) fullShare (cZ A (nz (nx (ny c)))) (by rw [qd_w]; rfl) Q

/-- What one step of the diagonal loop takes. -/
def RD (r : Fin 16) : sProp 𝕄 := iprop(todo (F := F) c (drS r) ∗ oAny (F := F) c (qw c) r)
/-- What it leaves. -/
def RD' (r : Fin 16) : sProp 𝕄 :=
  iprop(done (F := F) c (drS r) ∗ chk mD c r fullShare (cZ A (nz (nx (ny c)))) ∗ oblk c (qw c) r (tgt A G c))

/-- One chunk from the diagonal core: taken and normalised. -/
theorem group_D (r : Fin 16) :
    iprop(TO A G K c 0 ∗ RD (F := F) c r) ⊢ wpc c (Pipeline.chain (gD c r)) (fun _ => iprop(TO A G K c 0 ∗ RD' A G c r)) := by
  unfold TO RD RD' gD
  rw [wpc_cons, wpc_cons]
  iintro ⟨⟨#HP, HO, Hro⟩, Hw, Ho⟩
  iapply (r_wait A K c mZ mD wZ wD r (drS r) (ge4 (dr_val _) (by decide)) rfl _ (le_refl _) 0 (Above.zero _) _ (pay_dr A c r))
  isplitr; · iexact HP
  isplitl [HO]; · iexact HO
  isplitl [Hw]; · iexact Hw
  iintro ⟨HO, Hd, HD⟩
  iapply (pOut_D A G c r)
  isplitl [Hro]; · iexact Hro
  isplitl [HD]; · iexact HD
  isplitl [Ho]; · iexact Ho
  iintro ⟨Hro, HD, Ho⟩
  iapply (wpc_nil c (fun _ => iprop((pers A K c ∗ ow (F := F) c 0 ∗ ro A G c)
    ∗ done (F := F) c (drS r) ∗ chk mD c r fullShare (cZ A (nz (nx (ny c)))) ∗ oblk c (qw c) r (tgt A G c))))
  isplitl [HO Hro]
  · isplitr; · iexact HP
    isplitl [HO]; · iexact HO
    iexact Hro
  isplitl [Hd]; · iexact Hd
  isplitl [HD]; · iexact HD
  iexact Ho

/-- While waiting on the own sends nothing is owed. -/
def TW : sProp 𝕄 := iprop(pers A K c ∗ ow (F := F) c 0)

/-- One wait on an own send. -/
theorem r_back (A' B' : Memref sig .tc .vmem S512x2048 .fp8e4m3) (hA : A'.IsWhole) (hB : B'.IsWhole) (r : Fin 16)
    (s : DmaSem sig) (hs : 4 ≤ s.val) (hN : (cut B' r).view.dmaCredit = N) (X : sProp 𝕄) (hX : dmaPay A c s.val = X) (Q : PUnit → sProp 𝕄) :
    iprop(TW A K c ∗ todo (F := F) c s ∗ (TW A K c ∗ done (F := F) c s ∗ X -∗ Q ⟨⟩)) ⊢ wpc c (pWait A' B' hA hB r s) Q := by
  unfold TW
  iintro ⟨⟨#HP, HO⟩, Hw, Hk⟩
  iapply (r_wait A K c A' B' hA hB r s hs hN _ (le_refl _) 0 (Above.zero _) X hX)
  isplitr; · iexact HP
  isplitl [HO]; · iexact HO
  isplitl [Hw]; · iexact Hw
  iintro ⟨HO, Hd, HX⟩
  iapply Hk
  isplitl [HO]
  · isplitr; · iexact HP
    iexact HO
  isplitl [Hd]; · iexact Hd
  iexact HX

/-- A group of one such wait. -/
theorem group_back (A' B' : Memref sig .tc .vmem S512x2048 .fp8e4m3) (hA : A'.IsWhole) (hB : B'.IsWhole) (r : Fin 16)
    (s : DmaSem sig) (hs : 4 ≤ s.val) (hN : (cut B' r).view.dmaCredit = N) (X : sProp 𝕄) (hX : dmaPay A c s.val = X) :
    iprop(TW A K c ∗ todo (F := F) c s)
      ⊢ wpc c (Pipeline.chain [pWait A' B' hA hB r s]) (fun _ => iprop(TW A K c ∗ done (F := F) c s ∗ X)) := by
  rw [wpc_cons]
  iintro ⟨HT, Hw⟩
  iapply (r_back A K c A' B' hA hB r s hs hN X hX)
  isplitl [HT]; · iexact HT
  isplitl [Hw]; · iexact Hw
  iintro H
  iapply (wpc_nil c (fun _ => iprop(TW A K c ∗ done (F := F) c s ∗ X)))
  iexact H

/-- One wait on a send to the partner. -/
theorem group_Wz (r : Fin 16) : iprop(TW A K c ∗ todo (F := F) c (zsS r))
    ⊢ wpc c (Pipeline.chain (gWz r)) (fun _ => iprop(TW A K c ∗ done (F := F) c (zsS r) ∗ chk mZs c r fullShare (cZ A c))) :=
  group_back A K c mZ mZs wZ wZs r (zsS r) (ge4 (zs_val r) (by decide)) rfl _ (pay_zs A c r)

/-- One wait on a last hop over x. -/
theorem group_Wy (k : Fin 8) : iprop(TW A K c ∗ todo (F := F) c (rxS k))
    ⊢ wpc c (Pipeline.chain (gWy k)) (fun _ => iprop(TW A K c ∗ done (F := F) c (rxS k) ∗ chk mY c (lo k) qa (cZ A (nz (ny c))))) :=
  group_back A K c mD mY wD wY (lo k) (rxS k) (ge4 (rx_val k) (by decide)) rfl _ (pay_rx A c k)

/-- One wait on a last hop over y. -/
theorem group_Wx (k : Fin 8) : iprop(TW A K c ∗ todo (F := F) c (ryS k))
    ⊢ wpc c (Pipeline.chain (gWx k)) (fun _ => iprop(TW A K c ∗ done (F := F) c (ryS k) ∗ chk mX c (hi k) qa (cZ A (nz (nx c))))) :=
  group_back A K c mD mX wD wX (hi k) (ryS k) (ge4 (ry_val k) (by decide)) rfl _ (pay_ry A c k)

/-- The two waits on the forwards of a chunk. -/
theorem group_Wf (r : Fin 16) : iprop(TW A K c ∗ todo (F := F) c (xsS r) ∗ todo (F := F) c (ysS r))
    ⊢ wpc c (Pipeline.chain (gWf r)) (fun _ => iprop(TW A K c ∗ (done (F := F) c (xsS r) ∗ chk mZ c r q1 (cZ A (nz c)))
      ∗ (done (F := F) c (ysS r) ∗ chk mZ c r q2 (cZ A (nz c))))) := by
  unfold gWf
  rw [wpc_cons, wpc_cons]
  iintro ⟨HT, Hx, Hy⟩
  iapply (r_back A K c mX mZ wX wZ r (xsS r) (ge4 (xs_val r) (by decide)) rfl _ (pay_xs A c r))
  isplitl [HT]; · iexact HT
  isplitl [Hx]; · iexact Hx
  iintro ⟨HT, Hx⟩
  iapply (r_back A K c mY mZ wY wZ r (ysS r) (ge4 (ys_val r) (by decide)) rfl _ (pay_ys A c r))
  isplitl [HT]; · iexact HT
  isplitl [Hy]; · iexact Hy
  iintro ⟨HT, Hy⟩
  iapply (wpc_nil c (fun _ => iprop(TW A K c ∗ (done (F := F) c (xsS r) ∗ chk mZ c r q1 (cZ A (nz c)))
      ∗ (done (F := F) c (ysS r) ∗ chk mZ c r q2 (cZ A (nz c))))))
  isplitl [HT]; · iexact HT
  isplitl [Hx]; · iexact Hx
  iexact Hy

end Cert.Proof.K

end
-- ==== Proof.Split.lean ====
/-
The semaphores by their use, and the chunks by halves.
-/
module

public import proofs.«01_k».proof.Proof.Tail

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Over all sixteen chunks, and over eight. -/
abbrev S16 (Φ : Fin 16 → sProp 𝕄) : sProp 𝕄 := bigSep Finset.univ Φ
abbrev S8 (Φ : Fin 8 → sProp 𝕄) : sProp 𝕄 := bigSep Finset.univ Φ

/-- Sixteen chunks are the first eight and the last eight. -/
theorem split16 (Φ : Fin 16 → sProp 𝕄) : S16 (F := F) Φ = iprop(S8 (F := F) (fun k => Φ (lo k)) ∗ S8 (F := F) (fun k => Φ (hi k))) := by
  unfold S16 S8
  rw [bigSep_univ_eq_bigSepL (all8.map lo ++ all8.map hi) (by decide) (by decide), bigSep_univ_eq_bigSepL all8 (by decide) (by decide),
    bigSep_univ_eq_bigSepL all8 (by decide) (by decide), bigSepL_append, bigSepL_map, bigSepL_map]

/-- The own semaphore at distance `b` from the first. -/
abbrev kx (b : ℕ) (hb : b + 16 ≤ 130) (r : Fin 16) : Fin 130 := ⟨b + r.val, by omega⟩
abbrev ky (b : ℕ) (hb : b + 8 ≤ 130) (r : Fin 8) : Fin 130 := ⟨b + r.val, by omega⟩

theorem kx_own {S : Fin 16 → DmaSem sig} {n : ℕ} (h : ∀ r, (S r).val = n + r.val) (b : ℕ) (hb : b + 16 ≤ 130) (e : n = b + 2) (r : Fin 16) :
    own (kx b hb r) = S r := Fin.ext (by rw [h, e]; simp only [own, kx]; omega)
theorem ky_own {S : Fin 8 → DmaSem sig} {n : ℕ} (h : ∀ r, (S r).val = n + r.val) (b : ℕ) (hb : b + 8 ≤ 130) (e : n = b + 2) (r : Fin 8) :
    own (ky b hb r) = S r := Fin.ext (by rw [h, e]; simp only [own, ky]; omega)

def ownList : List (Fin 130) :=
  [0, 1] ++ (all16.map (kx 2 (by decide)) ++ (all16.map (kx 18 (by decide)) ++ (all16.map (kx 34 (by decide)) ++ (all16.map (kx 50 (by decide))
    ++ (all16.map (kx 66 (by decide)) ++ (all16.map (kx 82 (by decide)) ++ (all8.map (ky 98 (by decide)) ++ (all8.map (ky 106 (by decide))
    ++ all16.map (kx 114 (by decide))))))))))

/-- The sorted list is the whole list. -/
theorem ownList_eq : ownList = List.finRange 130 := by decide +kernel

/-- A core's 130 cells of copies, sorted by their use. -/
theorem own_split (X : DmaSem sig → sProp 𝕄) :
    bigSep Finset.univ (fun k : Fin 130 => X (own k))
      = iprop((X lcS0 ∗ X lcS1) ∗ S16 (F := F) (fun r => X (zsS r)) ∗ S16 (F := F) (fun r => X (zrS r)) ∗ S16 (F := F) (fun r => X (xsS r))
        ∗ S16 (F := F) (fun r => X (xrS r)) ∗ S16 (F := F) (fun r => X (ysS r)) ∗ S16 (F := F) (fun r => X (yrS r))
        ∗ S8 (F := F) (fun k => X (rxS k)) ∗ S8 (F := F) (fun k => X (ryS k)) ∗ S16 (F := F) (fun r => X (drS r))) := by
  have h16 (Φ : Fin 16 → sProp 𝕄) : bigSepL all16 Φ = S16 (F := F) Φ := (bigSep_univ_eq_bigSepL all16 (by decide) (by decide) Φ).symm
  have h8 (Φ : Fin 8 → sProp 𝕄) : bigSepL all8 Φ = S8 (F := F) Φ := (bigSep_univ_eq_bigSepL all8 (by decide) (by decide) Φ).symm
  rw [bigSep_univ_eq_bigSepL ownList
    (by rw [ownList_eq]; ext k; simp) (by rw [ownList_eq]; exact List.nodup_finRange 130)]
  unfold ownList
  simp only [bigSepL_append, bigSepL_map, h16, h8, kx_own zs_val 2 _ rfl, kx_own zr_val 18 _ rfl, kx_own xs_val 34 _ rfl,
    kx_own xr_val 50 _ rfl, kx_own ys_val 66 _ rfl, kx_own yr_val 82 _ rfl, ky_own rx_val 98 _ rfl, ky_own ry_val 106 _ rfl,
    kx_own dr_val 114 _ rfl]
  have e0 : own 0 = lcS0 := Fin.ext (by rw [lc0_val]; rfl)
  have e1 : own 1 = lcS1 := Fin.ext (by rw [lc1_val]; rfl)
  rw [bigSepL_cons', bigSepL_singleton, e0, e1]

end Cert.Proof.K

end
-- ==== Proof.Body.lean ====
/-
The whole body on one core: what it takes and what it leaves.
-/
module

public import proofs.«01_k».proof.Proof.Split

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → main_arg0.ty.Contents (Elt F)) (G : Dev nD → cc0_stg0_0.ty.Contents (Elt F))
  (K : GSem nD τ sig → ℕ) (c : Dev nD)

/-! ## What the body takes -/

/-- The duties of the copies that land on the neighbours. -/
def remToks : sProp 𝕄 :=
  iprop(S16 (F := F) (fun r => dutyTok (ER (F := F)) (dm (nz c) (zrS r)) 0 0) ∗ S16 (F := F) (fun r => dutyTok (ER (F := F)) (dm (nx c) (xrS r)) 0 0)
    ∗ S16 (F := F) (fun r => dutyTok (ER (F := F)) (dm (ny c) (yrS r)) 0 0)
    ∗ S8 (F := F) (fun k => dutyTok (ER (F := F)) (dm (nx c) (drS (lo k))) 0 0) ∗ S8 (F := F) (fun k => dutyTok (ER (F := F)) (dm (ny c) (drS (hi k))) 0 0))
/-- The duties of the own sends. -/
def ownToks : sProp 𝕄 :=
  iprop((tok (F := F) c lcS0 ∗ tok (F := F) c lcS1) ∗ S16 (F := F) (fun r => tok (F := F) c (zsS r)) ∗ S16 (F := F) (fun r => tok (F := F) c (xsS r))
    ∗ S16 (F := F) (fun r => tok (F := F) c (ysS r)) ∗ S8 (F := F) (fun k => tok (F := F) c (rxS k)) ∗ S8 (F := F) (fun k => tok (F := F) c (ryS k)))
/-- The credits of what the neighbours owe. -/
def creds : sProp 𝕄 :=
  iprop(cred (tallyAt (bar c) () 3) ∗ S16 (F := F) (fun r => sent (F := F) c (zrS r)) ∗ S16 (F := F) (fun r => sent (F := F) c (xrS r))
    ∗ S16 (F := F) (fun r => sent (F := F) c (yrS r)) ∗ S16 (F := F) (fun r => sent (F := F) c (drS r)))
/-- A cell's place before its wait. -/
def fresh (s : DmaSem sig) : sProp 𝕄 := atPos (ER (F := F)) (dm c s) 0 ∅ 0
/-- All cells' places. -/
def ats : sProp 𝕄 := iprop(atPos (ER (F := F)) (bar c) 0 ∅ 0 ∗ bigSep Finset.univ (fun k : Fin 130 => fresh (F := F) c (own k)))
/-- Every cell of the core past its one round. -/
def atsDone : sProp 𝕄 := iprop(atPos (ER (F := F)) (bar c) 1 ∅ 0 ∗ bigSep Finset.univ (fun k : Fin 130 => done (F := F) c (own k)))
/-- The scratches that the core keeps to itself, and the two parts of its partial sums. -/
def keep : sProp 𝕄 :=
  iprop(ptAny (F := F) c cc0_scratch1 ∗ ptAny (F := F) c cc0_scratch0 ∗ srcSPt A c qa ∗ srcLPt A c qb)
/-- The result's blocks, at any contents; and at the result. -/
def out0 : sProp 𝕄 :=
  iprop(S16 (F := F) (oAny (F := F) c (qm c)) ∗ S16 (F := F) (oAny (F := F) c (qx c)) ∗ S16 (F := F) (oAny (F := F) c (qy c)) ∗ S16 (F := F) (oAny (F := F) c (qw c)))
/-- The result, its four bands written. -/
def out1 : sProp 𝕄 :=
  iprop(S16 (F := F) (fun r => oblk c (qm c) r (tgt A G c)) ∗ S16 (F := F) (fun r => oblk c (qx c) r (tgt A G c))
    ∗ S16 (F := F) (fun r => oblk c (qy c) r (tgt A G c)) ∗ S16 (F := F) (fun r => oblk c (qw c) r (tgt A G c)))
/-- The chunks of the five scratches of transfers. -/
def chunks : sProp 𝕄 :=
  iprop(S16 (F := F) (chkAny (F := F) mZs c) ∗ S16 (F := F) (chkAny (F := F) mZ c) ∗ S16 (F := F) (chkAny (F := F) mX c)
    ∗ S16 (F := F) (chkAny (F := F) mY c) ∗ S16 (F := F) (chkAny (F := F) mD c))

/-! ## Regrouping -/

/-- The landing chunks of a copy and its duties, paired chunk by chunk. -/
theorem mkGoals (B : Memref sig .tc .vmem S512x2048 .fp8e4m3) (S : Fin 16 → DmaSem sig) (e : Dev nD) :
    iprop(land16 (F := F) B S e ∗ S16 (F := F) (fun r => dutyTok (ER (F := F)) (dm e (S r)) 0 0)) = S16 (F := F) (fun r => goal (F := F) B (S r) e r) := by
  unfold land16 goal; exact (bigSep_sep' _ _ _).symm
/-- The same for the eight chunks of the last hop. -/
theorem mkGoals8 (B : Memref sig .tc .vmem S512x2048 .fp8e4m3) (S : Fin 16 → DmaSem sig) (h : Fin 8 → Fin 16) (e : Dev nD) :
    iprop(land8 (F := F) B S h e ∗ S8 (F := F) (fun k => dutyTok (ER (F := F)) (dm e (S (h k))) 0 0))
      = S8 (F := F) (fun k => goal (F := F) B (S (h k)) e (h k)) := by
  unfold land8 goal; exact (bigSep_sep' _ _ _).symm
/-- The credits of sixteen waits and the places of their cells, paired. -/
theorem mkTodo (S : Fin 16 → DmaSem sig) :
    iprop(S16 (F := F) (fun r => sent (F := F) c (S r)) ∗ S16 (F := F) (fun r => fresh (F := F) c (S r))) = S16 (F := F) (fun r => todo (F := F) c (S r)) := by
  unfold sent fresh todo; exact (bigSep_sep' _ _ _).symm
/-- The same for eight. -/
theorem mkTodo8 (S : Fin 8 → DmaSem sig) :
    iprop(S8 (F := F) (fun r => sent (F := F) c (S r)) ∗ S8 (F := F) (fun r => fresh (F := F) c (S r))) = S8 (F := F) (fun r => todo (F := F) c (S r)) := by
  unfold sent fresh todo; exact (bigSep_sep' _ _ _).symm

/-- A run of pieces, and what follows. -/
theorem wpc_then {l : List (P F)} {X Y : sProp 𝕄} (h : X ⊢ wpc c (Pipeline.chain l) (fun _ => Y)) (l' : List (P F)) (Q : PUnit → sProp 𝕄) :
    iprop(X ∗ (Y -∗ wpc c (Pipeline.chain l') Q)) ⊢ wpc c (Pipeline.chain (l ++ l')) Q := by
  refine BI.Entails.trans ?_ (wpc_append c Q l' l)
  show (_ : sProp 𝕄) ⊢ _
  iintro ⟨HX, Hk⟩
  iapply (wp_wand _ _ _ (Q := fun _ => Y)) $$ [HX]
  · iapply h; iexact HX
  iintro %_ HY
  iapply Hk; iexact HY

/-- The body's pieces, grouped by loop. -/
theorem pieces_eq : pieces (F := F) c = pBar c :: pLoc c :: (all16.flatMap (gZ c) ++ (pLoc2 c :: (all16.flatMap (gF c)
    ++ (all8.flatMap (gA c) ++ (all8.flatMap (gB c) ++ (all16.flatMap (gD c) ++ (all16.flatMap gWz ++ (all16.flatMap gWf
    ++ (all8.flatMap gWy ++ (all8.flatMap gWx ++ []))))))))))  := by
  unfold pieces
  simp only [List.append_assoc, List.cons_append, List.nil_append, List.append_nil]

/-- Chunks at known contents are chunks at some contents. -/
theorem s16_any (B : Memref sig .tc .vmem S512x2048 .fp8e4m3) (f : B.view.ty.Contents (Elt F)) :
    S16 (F := F) (fun r => chk B c r fullShare f) ⊢ S16 (F := F) (chkAny (F := F) B c) :=
  bigSep_mono fun r _ => by show (_ : sProp 𝕄) ⊢ _; iintro H; iexists f; iexact H

/-- The round part of what loop F leaves, and so on: the families apart. -/
theorem RF'_split : S16 (F := F) (RF' A G c) = iprop(S16 (F := F) (fun r => done (F := F) c (zrS r)) ∗ S16 (F := F) (fun r => sent (F := F) c (xsS r))
    ∗ S16 (F := F) (fun r => sent (F := F) c (ysS r)) ∗ S16 (F := F) (fun r => chk mZ c r q3 (cZ A (nz c))) ∗ S16 (F := F) (fun r => oblk c (qm c) r (tgt A G c))) := by
  unfold RF' S16; rw [bigSep_sep', bigSep_sep', bigSep_sep', bigSep_sep']
/-- What the first eight steps of the second loop leave, sorted by kind. -/
theorem RA'_split : S8 (F := F) (RA' A G c) = iprop(S8 (F := F) (fun k => done (F := F) c (xrS (lo k))) ∗ S8 (F := F) (fun k => done (F := F) c (yrS (lo k)))
    ∗ S8 (F := F) (fun k => sent (F := F) c (rxS k)) ∗ S8 (F := F) (fun k => chk mX c (lo k) fullShare (cZ A (nz (nx c))))
    ∗ S8 (F := F) (fun k => chk mY c (lo k) qb (cZ A (nz (ny c)))) ∗ S8 (F := F) (fun k => oblk c (qx c) (lo k) (tgt A G c))
    ∗ S8 (F := F) (fun k => oblk c (qy c) (lo k) (tgt A G c))) := by
  unfold RA' S8; rw [bigSep_sep', bigSep_sep', bigSep_sep', bigSep_sep', bigSep_sep', bigSep_sep']
/-- What its last eight steps leave, sorted by kind. -/
theorem RB'_split : S8 (F := F) (RB' A G c) = iprop(S8 (F := F) (fun k => done (F := F) c (xrS (hi k))) ∗ S8 (F := F) (fun k => done (F := F) c (yrS (hi k)))
    ∗ S8 (F := F) (fun k => sent (F := F) c (ryS k)) ∗ S8 (F := F) (fun k => chk mX c (hi k) qb (cZ A (nz (nx c))))
    ∗ S8 (F := F) (fun k => chk mY c (hi k) fullShare (cZ A (nz (ny c)))) ∗ S8 (F := F) (fun k => oblk c (qx c) (hi k) (tgt A G c))
    ∗ S8 (F := F) (fun k => oblk c (qy c) (hi k) (tgt A G c))) := by
  unfold RB' S8; rw [bigSep_sep', bigSep_sep', bigSep_sep', bigSep_sep', bigSep_sep', bigSep_sep']
/-- What the diagonal loop leaves, sorted by kind. -/
theorem RD'_split : S16 (F := F) (RD' A G c) = iprop(S16 (F := F) (fun r => done (F := F) c (drS r))
    ∗ S16 (F := F) (fun r => chk mD c r fullShare (cZ A (nz (nx (ny c))))) ∗ S16 (F := F) (fun r => oblk c (qw c) r (tgt A G c))) := by
  unfold RD' S16; rw [bigSep_sep', bigSep_sep']
/-- What the first loop of forwards takes, out of its kinds. -/
theorem RF_join : S16 (F := F) (RF (F := F) c) = iprop(S16 (F := F) (fun r => todo (F := F) c (zrS r)) ∗ S16 (F := F) (fun r => tok (F := F) c (xsS r))
    ∗ S16 (F := F) (fun r => goal (F := F) mX (xrS r) (nx c) r) ∗ S16 (F := F) (fun r => tok (F := F) c (ysS r))
    ∗ S16 (F := F) (fun r => goal (F := F) mY (yrS r) (ny c) r) ∗ S16 (F := F) (oAny (F := F) c (qm c))) := by
  unfold RF S16; rw [bigSep_sep', bigSep_sep', bigSep_sep', bigSep_sep', bigSep_sep']
/-- What the first eight steps of the second loop take. -/
theorem RA_join : S8 (F := F) (RA (F := F) c) = iprop(S8 (F := F) (fun k => todo (F := F) c (xrS (lo k))) ∗ S8 (F := F) (fun k => todo (F := F) c (yrS (lo k)))
    ∗ S8 (F := F) (fun k => tok (F := F) c (rxS k)) ∗ S8 (F := F) (fun k => goal (F := F) mD (drS (lo k)) (nx c) (lo k))
    ∗ S8 (F := F) (fun k => oAny (F := F) c (qx c) (lo k)) ∗ S8 (F := F) (fun k => oAny (F := F) c (qy c) (lo k))) := by
  unfold RA S8; rw [bigSep_sep', bigSep_sep', bigSep_sep', bigSep_sep', bigSep_sep']
/-- What its last eight steps take. -/
theorem RB_join : S8 (F := F) (RB (F := F) c) = iprop(S8 (F := F) (fun k => todo (F := F) c (xrS (hi k))) ∗ S8 (F := F) (fun k => todo (F := F) c (yrS (hi k)))
    ∗ S8 (F := F) (fun k => tok (F := F) c (ryS k)) ∗ S8 (F := F) (fun k => goal (F := F) mD (drS (hi k)) (ny c) (hi k))
    ∗ S8 (F := F) (fun k => oAny (F := F) c (qx c) (hi k)) ∗ S8 (F := F) (fun k => oAny (F := F) c (qy c) (hi k))) := by
  unfold RB S8; rw [bigSep_sep', bigSep_sep', bigSep_sep', bigSep_sep', bigSep_sep']
/-- What the loop of sends to the partner takes. -/
theorem RZ_join : S16 (F := F) (RZ (F := F) c) = iprop(S16 (F := F) (chkAny (F := F) mZs c) ∗ S16 (F := F) (fun r => tok (F := F) c (zsS r))
    ∗ S16 (F := F) (fun r => goal (F := F) mZ (zrS r) (nz c) r)) := by
  unfold RZ S16; rw [bigSep_sep', bigSep_sep']
/-- What the diagonal loop takes. -/
theorem RD_join : S16 (F := F) (RD (F := F) c) = iprop(S16 (F := F) (fun r => todo (F := F) c (drS r)) ∗ S16 (F := F) (oAny (F := F) c (qw c))) := by
  unfold RD S16; rw [bigSep_sep']

/-- The three shares of the chunks from the partner make whole chunks. -/
theorem join_mZ : iprop(S16 (F := F) (fun r => chk mZ c r q1 (cZ A (nz c))) ∗ S16 (F := F) (fun r => chk mZ c r q2 (cZ A (nz c)))
    ∗ S16 (F := F) (fun r => chk mZ c r q3 (cZ A (nz c)))) ⊢ S16 (F := F) (chkAny (F := F) mZ c) := by
  unfold S16
  rw [← bigSep_sep', ← bigSep_sep']
  exact bigSep_mono fun r _ => by show (_ : sProp 𝕄) ⊢ _; iintro H; iexists _; iapply (chk_join3 c mZ r (cZ A (nz c))); iexact H
/-- The chunks from x, those whose second half was lent included, are whole. -/
theorem join_mX : iprop(S8 (F := F) (fun k => chk mX c (lo k) fullShare (cZ A (nz (nx c)))) ∗ S8 (F := F) (fun k => chk mX c (hi k) qa (cZ A (nz (nx c))))
    ∗ S8 (F := F) (fun k => chk mX c (hi k) qb (cZ A (nz (nx c))))) ⊢ S16 (F := F) (chkAny (F := F) mX c) := by
  rw [split16, ← bigSep_sep']
  refine BI.sep_mono (bigSep_mono fun k _ => ?_) (bigSep_mono fun k _ => ?_)
  · show (_ : sProp 𝕄) ⊢ _; iintro H; iexists _; iexact H
  · show (_ : sProp 𝕄) ⊢ _; iintro H; iexists _; iapply (chk_join2 c mX (hi k) (cZ A (nz (nx c)))); iexact H
/-- The chunks from y, those whose first half was lent included, are whole. -/
theorem join_mY : iprop(S8 (F := F) (fun k => chk mY c (hi k) fullShare (cZ A (nz (ny c)))) ∗ S8 (F := F) (fun k => chk mY c (lo k) qa (cZ A (nz (ny c))))
    ∗ S8 (F := F) (fun k => chk mY c (lo k) qb (cZ A (nz (ny c))))) ⊢ S16 (F := F) (chkAny (F := F) mY c) := by
  rw [split16, ← bigSep_sep']
  refine BI.Entails.trans BI.sep_comm (BI.sep_mono (bigSep_mono fun k _ => ?_) (bigSep_mono fun k _ => ?_))
  · show (_ : sProp 𝕄) ⊢ _; iintro H; iexists _; iapply (chk_join2 c mY (lo k) (cZ A (nz (ny c)))); iexact H
  · show (_ : sProp 𝕄) ⊢ _; iintro H; iexists _; iexact H

theorem ow_zero_add (O : CellTallies nD τ sig Unit) : ow (F := F) c (0 + O) = ow (F := F) c O := by rw [zero_add]

end Cert.Proof.K

end
-- ==== Proof.BodyRun.lean ====
/-
The body run from start to end on one core.
-/
module

public import proofs.«01_k».proof.Proof.Body

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → main_arg0.ty.Contents (Elt F)) (G : Dev nD → cc0_stg0_0.ty.Contents (Elt F))
  (K : GSem nD τ sig → ℕ) (c : Dev nD)

/-- What the body takes. -/
def bodyPre : sProp 𝕄 :=
  iprop((pers A K c ∗ barRch (F := F) c) ∗ ow (F := F) c (O₀ c) ∗ (barToks (F := F) c ∗ remToks (F := F) c ∗ ownToks (F := F) c) ∗ creds (F := F) c
    ∗ ats (F := F) c ∗ S16 (F := F) (chkAny (F := F) mZs c) ∗ lends (F := F) c ∗ keep A c ∗ out0 (F := F) c ∗ pt c cc0_stg0_0 (G c))
/-- What it leaves. -/
def bodyPost : sProp 𝕄 :=
  iprop(pers A K c ∗ ow (F := F) c 0 ∗ atsDone (F := F) c ∗ chunks (F := F) c ∗ keep A c ∗ out1 A G c ∗ pt c cc0_stg0_0 (G c))

theorem sep16 (Φ Ψ : Fin 16 → sProp 𝕄) : S16 (F := F) (fun r => iprop(Φ r ∗ Ψ r)) = iprop(S16 (F := F) Φ ∗ S16 (F := F) Ψ) := bigSep_sep' _ _ _
theorem sep8 (Φ Ψ : Fin 8 → sProp 𝕄) : S8 (F := F) (fun r => iprop(Φ r ∗ Ψ r)) = iprop(S8 (F := F) Φ ∗ S8 (F := F) Ψ) := bigSep_sep' _ _ _

/-- The loop that narrows and sends to the partner. -/
theorem loop_Z : iprop(TZ A K c all16 ∗ S16 (F := F) (RZ (F := F) c)) ⊢ wpc c (Pipeline.chain (all16.flatMap (gZ c)))
    (fun _ => iprop(TZ A K c [] ∗ S16 (F := F) (fun r => sent (F := F) c (zsS r)))) :=
  wpc_all16 c (gZ c) (TZ A K c) (RZ (F := F) c) _ (group_Z A K c)
/-- The loop that takes the partner's chunks, forwards them and normalises. -/
theorem loop_F : iprop(TO A G K c (oF c) ∗ S16 (F := F) (RF (F := F) c)) ⊢ wpc c (Pipeline.chain (all16.flatMap (gF c)))
    (fun _ => iprop(TO A G K c (oA c) ∗ S16 (F := F) (RF' A G c))) := by
  rw [show oA c = sumL (tF c) [] + oA c from (zero_add _).symm]
  exact wpc_all16 c (gF c) (fun l => TO A G K c (sumL (tF c) l + oA c)) (RF (F := F) c) _ (group_F A G K c)
/-- The first eight steps of the loop over the chunks from x and y. -/
theorem loop_A : iprop(TO A G K c (oA c) ∗ S8 (F := F) (RA (F := F) c)) ⊢ wpc c (Pipeline.chain (all8.flatMap (gA c)))
    (fun _ => iprop(TO A G K c (oB c) ∗ S8 (F := F) (RA' A G c))) := by
  rw [show oB c = sumL (tA c) [] + oB c from (zero_add _).symm]
  exact wpc_all8 c (gA c) (fun l => TO A G K c (sumL (tA c) l + oB c)) (RA (F := F) c) _ (group_A A G K c)
/-- Its last eight steps. -/
theorem loop_B : iprop(TO A G K c (oB c) ∗ S8 (F := F) (RB (F := F) c)) ⊢ wpc c (Pipeline.chain (all8.flatMap (gB c)))
    (fun _ => iprop(TO A G K c 0 ∗ S8 (F := F) (RB' A G c))) :=
  wpc_all8 c (gB c) (fun l => TO A G K c (sumL (tB c) l)) (RB (F := F) c) _ (group_B A G K c)
/-- The loop over the chunks from the diagonal core. -/
theorem loop_D : iprop(TO A G K c 0 ∗ S16 (F := F) (RD (F := F) c)) ⊢ wpc c (Pipeline.chain (all16.flatMap (gD c)))
    (fun _ => iprop(TO A G K c 0 ∗ S16 (F := F) (RD' A G c))) :=
  wpc_all16 c (gD c) (fun _ => TO A G K c 0) (RD (F := F) c) _ (fun r _ => group_D A G K c r)
/-- The waits on the sends to the partner. -/
theorem loop_Wz : iprop(TW A K c ∗ S16 (F := F) (fun r => todo (F := F) c (zsS r))) ⊢ wpc c (Pipeline.chain (all16.flatMap gWz))
    (fun _ => iprop(TW A K c ∗ S16 (F := F) (fun r => iprop(done (F := F) c (zsS r) ∗ chk mZs c r fullShare (cZ A c))))) :=
  wpc_all16 c gWz (fun _ => TW A K c) _ _ (fun r _ => group_Wz A K c r)
/-- The waits on the forwards to x and y. -/
theorem loop_Wf : iprop(TW A K c ∗ S16 (F := F) (fun r => iprop(todo (F := F) c (xsS r) ∗ todo (F := F) c (ysS r))))
    ⊢ wpc c (Pipeline.chain (all16.flatMap gWf)) (fun _ => iprop(TW A K c ∗ S16 (F := F) (fun r =>
      iprop((done (F := F) c (xsS r) ∗ chk mZ c r q1 (cZ A (nz c))) ∗ (done (F := F) c (ysS r) ∗ chk mZ c r q2 (cZ A (nz c))))))) :=
  wpc_all16 c gWf (fun _ => TW A K c) _ _ (fun r _ => group_Wf A K c r)
/-- The waits on the last hops over x. -/
theorem loop_Wy : iprop(TW A K c ∗ S8 (F := F) (fun k => todo (F := F) c (rxS k))) ⊢ wpc c (Pipeline.chain (all8.flatMap gWy))
    (fun _ => iprop(TW A K c ∗ S8 (F := F) (fun k => iprop(done (F := F) c (rxS k) ∗ chk mY c (lo k) qa (cZ A (nz (ny c))))))) :=
  wpc_all8 c gWy (fun _ => TW A K c) _ _ (fun k _ => group_Wy A K c k)
/-- The waits on the last hops over y. -/
theorem loop_Wx : iprop(TW A K c ∗ S8 (F := F) (fun k => todo (F := F) c (ryS k))) ⊢ wpc c (Pipeline.chain (all8.flatMap gWx))
    (fun _ => iprop(TW A K c ∗ S8 (F := F) (fun k => iprop(done (F := F) c (ryS k) ∗ chk mX c (hi k) qa (cZ A (nz (nx c))))))) :=
  wpc_all8 c gWx (fun _ => TW A K c) _ _ (fun k _ => group_Wx A K c k)

theorem join16 (Φ : Fin 16 → sProp 𝕄) : iprop(S8 (F := F) (fun k => Φ (lo k)) ∗ S8 (F := F) (fun k => Φ (hi k))) ⊢ S16 (F := F) Φ :=
  Entails.of_eq (split16 Φ).symm

/-- The whole body: from what it takes to what it leaves. -/
theorem body_run (Q : PUnit → sProp 𝕄) (hQ : bodyPost A G K c ⊢ Q ⟨⟩) :
    bodyPre A G K c ⊢ wpc c (Pipeline.chain (pieces c)) Q := by
  rw [pieces_eq, wpc_cons, wpc_cons]
  unfold bodyPre remToks ownToks creds ats keep out0 pers
  rw [own_split (F := F) (fun s => fresh (F := F) c s)]
  iintro ⟨⟨⟨#HI, #Hlev, #Hr⟩, #Hbr⟩, HO, ⟨Hbt, ⟨Rz, Rx, Ry, Rdx, Rdy⟩, ⟨⟨Tl0, Tl1⟩, Tzs, Txs, Tys, Trx, Try⟩⟩, ⟨Cb, Czr, Cxr, Cyr, Cdr⟩,
    ⟨Pb, ⟨Pl0, Pl1⟩, Pzs, Pzr, Pxs, Pxr, Pys, Pyr, Prx, Pry, Pdr⟩, HZs, Hlend, ⟨K1, K0, KS, KL⟩, ⟨Om, Ox, Oy, Ow⟩, HG⟩
  -- the barrier
  iapply (wp_pBar A K c)
  isplitr; · iexact HI
  isplitr; · iexact Hlev
  isplitr; · iexact Hbr
  isplitl [HO]; · iexact HO
  isplitl [Hbt]; · iexact Hbt
  isplitl [Hlend]; · iexact Hlend
  isplitl [Cb]; · iexact Cb
  isplitl [Pb]; · iexact Pb
  unfold barPay
  rw [if_pos rfl, if_neg (by decide), if_pos rfl, if_neg (by decide), if_neg (by decide)]
  iintro ⟨HO, Pb, Lz, ⟨Lx, Ldx⟩, ⟨Ly, Ldy⟩⟩
  -- the local copies
  iapply (wp_pLoc A K c (oZ c) ((above_oZ c).mono (by decide)))
  isplitr; · iexact HI
  isplitr; · iexact Hlev
  isplitr; · iexact Hr
  isplitl [HO]; · iexact HO
  isplitl [Tl0]; · unfold tok; iexact Tl0
  isplitl [Tl1]; · unfold tok; iexact Tl1
  isplitl [Pl0]; · unfold fresh; iexact Pl0
  isplitl [KS]; · iexact KS
  isplitl [KL]; · iexact KL
  isplitl [K1]; · iexact K1
  isplitl [K0]; · iexact K0
  iintro ⟨HO, Pl0, Cl1, K1, KS⟩
  -- to the partner
  iapply (wpc_then c (loop_Z A K c))
  isplitl [HO K1 HZs Tzs Lz Rz]
  · isplitl [HO K1]
    · unfold TZ pers
      isplitr
      · isplitr; · iexact HI
        isplitr; · iexact Hlev
        iexact Hr
      isplitl [HO]; · iexact HO
      iexact K1
    rw [RZ_join]
    isplitl [HZs]; · iexact HZs
    isplitl [Tzs]; · iexact Tzs
    rw [← mkGoals]
    isplitl [Lz]; · iexact Lz
    iexact Rz
  iintro ⟨HT, Czs⟩
  unfold TZ
  icases HT with ⟨-, HO, K1⟩
  rw [wpc_cons]
  iapply (wp_pLoc2 A K c (sumL (tZ c) [] + oF c) ((Above.zero _).add ((above_oF c).mono (by decide))))
  isplitr; · iexact HI
  isplitr; · iexact Hlev
  isplitl [HO]; · iexact HO
  isplitl [Cl1]; · iexact Cl1
  isplitl [Pl1]; · unfold fresh; iexact Pl1
  iintro ⟨HO, Pl1, K0, KL⟩
  -- from the partner, on to x and y
  iapply (wpc_then c (loop_F A G K c))
  isplitl [HO K0 HG Czr Pzr Txs Lx Rx Tys Ly Ry Om]
  · isplitl [HO K0 HG]
    · unfold TO pers ro
      isplitr
      · isplitr; · iexact HI
        isplitr; · iexact Hlev
        iexact Hr
      isplitl [HO]
      · iapply (Entails.of_eq (ow_zero_add c (oF c))); iexact HO
      isplitl [K0]; · iexact K0
      iexact HG
    rw [RF_join]
    isplitl [Czr Pzr]
    · rw [← mkTodo (F := F) c zrS]
      isplitl [Czr]; · iexact Czr
      iexact Pzr
    isplitl [Txs]; · iexact Txs
    isplitl [Lx Rx]
    · rw [← mkGoals]
      isplitl [Lx]; · iexact Lx
      iexact Rx
    isplitl [Tys]; · iexact Tys
    isplitl [Ly Ry]
    · rw [← mkGoals]
      isplitl [Ly]; · iexact Ly
      iexact Ry
    iexact Om
  rw [RF'_split]
  iintro ⟨HT, Dzr, Cxs, Cys, Z3, Om⟩
  ihave Hs := (Entails.of_eq (split16 (F := F) (fun r => sent (F := F) c (xrS r)))) $$ Cxr
  icases Hs with ⟨Cxl, Cxh⟩
  ihave Hs := (Entails.of_eq (split16 (F := F) (fun r => sent (F := F) c (yrS r)))) $$ Cyr
  icases Hs with ⟨Cyl, Cyh⟩
  ihave Hs := (Entails.of_eq (split16 (F := F) (fun r => fresh (F := F) c (xrS r)))) $$ Pxr
  icases Hs with ⟨Pxl, Pxh⟩
  ihave Hs := (Entails.of_eq (split16 (F := F) (fun r => fresh (F := F) c (yrS r)))) $$ Pyr
  icases Hs with ⟨Pyl, Pyh⟩
  ihave Hs := (Entails.of_eq (split16 (F := F) (oAny (F := F) c (qx c)))) $$ Ox
  icases Hs with ⟨Oxl, Oxh⟩
  ihave Hs := (Entails.of_eq (split16 (F := F) (oAny (F := F) c (qy c)))) $$ Oy
  icases Hs with ⟨Oyl, Oyh⟩
  -- the first eight from x and y
  iapply (wpc_then c (loop_A A G K c))
  isplitl [HT Cxl Pxl Cyl Pyl Trx Ldx Rdx Oxl Oyl]
  · isplitl [HT]; · iexact HT
    rw [RA_join]
    isplitl [Cxl Pxl]
    · rw [← mkTodo8 (F := F) c (fun k => xrS (lo k))]
      isplitl [Cxl]; · iexact Cxl
      iexact Pxl
    isplitl [Cyl Pyl]
    · rw [← mkTodo8 (F := F) c (fun k => yrS (lo k))]
      isplitl [Cyl]; · iexact Cyl
      iexact Pyl
    isplitl [Trx]; · iexact Trx
    isplitl [Ldx Rdx]
    · rw [← mkGoals8 (F := F) mD drS lo (nx c)]
      isplitl [Ldx]; · iexact Ldx
      iexact Rdx
    isplitl [Oxl]; · iexact Oxl
    iexact Oyl
  rw [RA'_split]
  iintro ⟨HT, Dxl, Dyl, Crx, Xl, Yl, Oxl, Oyl⟩
  -- the last eight
  iapply (wpc_then c (loop_B A G K c))
  isplitl [HT Cxh Pxh Cyh Pyh Try Ldy Rdy Oxh Oyh]
  · isplitl [HT]; · iexact HT
    rw [RB_join]
    isplitl [Cxh Pxh]
    · rw [← mkTodo8 (F := F) c (fun k => xrS (hi k))]
      isplitl [Cxh]; · iexact Cxh
      iexact Pxh
    isplitl [Cyh Pyh]
    · rw [← mkTodo8 (F := F) c (fun k => yrS (hi k))]
      isplitl [Cyh]; · iexact Cyh
      iexact Pyh
    isplitl [Try]; · iexact Try
    isplitl [Ldy Rdy]
    · rw [← mkGoals8 (F := F) mD drS hi (ny c)]
      isplitl [Ldy]; · iexact Ldy
      iexact Rdy
    isplitl [Oxh]; · iexact Oxh
    iexact Oyh
  rw [RB'_split]
  iintro ⟨HT, Dxh, Dyh, Cry, Xh, Yh, Oxh, Oyh⟩
  -- the diagonal
  iapply (wpc_then c (loop_D A G K c))
  isplitl [HT Cdr Pdr Ow]
  · isplitl [HT]; · iexact HT
    rw [RD_join]
    isplitl [Cdr Pdr]
    · rw [← mkTodo (F := F) c drS]
      isplitl [Cdr]; · iexact Cdr
      iexact Pdr
    iexact Ow
  rw [RD'_split]
  unfold TO ro
  iintro ⟨⟨#HP, HO, K0, HG⟩, Ddr, HD, Ow⟩
  -- the own sends
  iapply (wpc_then c (loop_Wz A K c))
  isplitl [HO Czs Pzs]
  · isplitl [HO]
    · unfold TW
      isplitr; · iexact HP
      iexact HO
    rw [← mkTodo (F := F) c zsS]
    isplitl [Czs]; · iexact Czs
    iexact Pzs
  rw [sep16]
  iintro ⟨HT, Dzs, HZs⟩
  iapply (wpc_then c (loop_Wf A K c))
  isplitl [HT Cxs Pxs Cys Pys]
  · isplitl [HT]; · iexact HT
    rw [sep16, ← mkTodo (F := F) c xsS, ← mkTodo (F := F) c ysS]
    isplitl [Cxs Pxs]
    · isplitl [Cxs]; · iexact Cxs
      iexact Pxs
    isplitl [Cys]; · iexact Cys
    iexact Pys
  rw [sep16, sep16, sep16]
  iintro ⟨HT, ⟨Dxs, Z1⟩, Dys, Z2⟩
  iapply (wpc_then c (loop_Wy A K c))
  isplitl [HT Crx Prx]
  · isplitl [HT]; · iexact HT
    rw [← mkTodo8 (F := F) c rxS]
    isplitl [Crx]; · iexact Crx
    iexact Prx
  rw [sep8]
  iintro ⟨HT, Drx, Ya⟩
  iapply (wpc_then c (loop_Wx A K c))
  isplitl [HT Cry Pry]
  · isplitl [HT]; · iexact HT
    rw [← mkTodo8 (F := F) c ryS]
    isplitl [Cry]; · iexact Cry
    iexact Pry
  rw [sep8]
  iintro ⟨HT, Dry, Xa⟩
  unfold TW
  icases HT with ⟨-, HO⟩
  iapply (wpc_nil c Q)
  iapply hQ
  unfold bodyPost atsDone chunks keep out1
  rw [own_split (F := F) (fun s => done (F := F) c s)]
  isplitr; · iexact HP
  isplitl [HO]; · iexact HO
  isplitl [Pb Pl0 Pl1 Dzs Dzr Dxs Dxl Dxh Dys Dyl Dyh Drx Dry Ddr]
  · isplitl [Pb]; · iexact Pb
    isplitl [Pl0 Pl1]
    · unfold done
      isplitl [Pl0]; · iexact Pl0
      iexact Pl1
    isplitl [Dzs]; · iexact Dzs
    isplitl [Dzr]; · iexact Dzr
    isplitl [Dxs]; · iexact Dxs
    isplitl [Dxl Dxh]
    · iapply (join16 (F := F) (fun r => done (F := F) c (xrS r)))
      isplitl [Dxl]; · iexact Dxl
      iexact Dxh
    isplitl [Dys]; · iexact Dys
    isplitl [Dyl Dyh]
    · iapply (join16 (F := F) (fun r => done (F := F) c (yrS r)))
      isplitl [Dyl]; · iexact Dyl
      iexact Dyh
    isplitl [Drx]; · iexact Drx
    isplitl [Dry]; · iexact Dry
    iexact Ddr
  isplitl [HZs Z1 Z2 Z3 Xl Xa Xh Yh Ya Yl HD]
  · isplitl [HZs]; · iapply (s16_any c mZs (cZ A c)); iexact HZs
    isplitl [Z1 Z2 Z3]
    · iapply (join_mZ A c)
      isplitl [Z1]; · iexact Z1
      isplitl [Z2]; · iexact Z2
      iexact Z3
    isplitl [Xl Xa Xh]
    · iapply (join_mX A c)
      isplitl [Xl]; · iexact Xl
      isplitl [Xa]; · iexact Xa
      iexact Xh
    isplitl [Yh Ya Yl]
    · iapply (join_mY A c)
      isplitl [Yh]; · iexact Yh
      isplitl [Ya]; · iexact Ya
      iexact Yl
    iapply (s16_any c mD (cZ A (nz (nx (ny c))))); iexact HD
  isplitl [K1 K0 KS KL]
  · isplitl [K1]; · iexists _; iexact K1
    isplitl [K0]; · iexists _; iexact K0
    isplitl [KS]; · iexact KS
    iexact KL
  isplitl [Om Oxl Oxh Oyl Oyh Ow]
  · isplitl [Om]; · iexact Om
    isplitl [Oxl Oxh]
    · iapply (join16 (F := F) (fun r => oblk c (qx c) r (tgt A G c)))
      isplitl [Oxl]; · iexact Oxl
      iexact Oxh
    isplitl [Oyl Oyh]
    · iapply (join16 (F := F) (fun r => oblk c (qy c) r (tgt A G c)))
      isplitl [Oyl]; · iexact Oyl
      iexact Oyh
    iexact Ow
  iexact HG

end Cert.Proof.K

end
-- ==== Proof.Mem.lean ====
/-
Whole buffers divided into what the body works on, and put together again.
-/
module

public import proofs.«01_k».proof.Proof.BodyRun
public import Idealize.ShloMosaic.Lib.Ring
public import Idealize.ShloMosaic.Lib.Rounds.Family

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → main_arg0.ty.Contents (Elt F)) (G : Dev nD → cc0_stg0_0.ty.Contents (Elt F))
  (K : GSem nD τ sig → ℕ) (c : Dev nD)

/-- A buffer of the core, whole. -/
abbrev wh (b : Ref sig .tc) (f : Buf (Elt F) ((c : Thread nD τ).loc b)) : sProp 𝕄 := ((c : Thread nD τ).loc b) ↦{fullShare} f
abbrev whAny (b : Ref sig .tc) : sProp 𝕄 := iprop(∃ f : Buf (Elt F) ((c : Thread nD τ).loc b), wh c b f)

theorem pt_wh (b : Ref sig .tc) (f : b.ty.Contents (Elt F)) : pt (F := F) c b f = wh c b f := by
  unfold pt wh; simp only [Memref.view_whole, View.set_whole]

/-- A buffer that disjoint sets cover is those sets, at contents not chosen. -/
theorem any_split {ℓ : Loc nD τ sig} {J : Type} [Fintype J] [DecidableEq J] (I : J → Finset (Idx ℓ))
    (hd : ∀ r r', r ≠ r' → Disjoint (I r) (I r')) (hc : Finset.univ.biUnion I = Finset.univ) :
    (iprop(∃ f : Buf (Elt F) ℓ, ℓ ↦{fullShare} f) : sProp 𝕄) ⊢ bigSep Finset.univ fun r => iprop(∃ f : Buf (Elt F) ℓ, ℓ ↦[I r]{fullShare} f) := by
  iintro ⟨%f, H⟩
  ihave H' := (Entails.of_eq (Ring.pointsTo_blocks I hd hc f)) $$ H
  ihave H2 := (show bigSep Finset.univ (fun r => (ℓ ↦[I r]{fullShare} f : sProp 𝕄))
      ⊢ bigSep Finset.univ fun r => iprop(∃ f : Buf (Elt F) ℓ, ℓ ↦[I r]{fullShare} f) from bigSep_mono fun r _ => by
    show (_ : sProp 𝕄) ⊢ _; iintro H; iexists f; iexact H) $$ H'
  iexact H2

theorem any_join {ℓ : Loc nD τ sig} {J : Type} [Fintype J] [DecidableEq J] (I : J → Finset (Idx ℓ))
    (hd : ∀ r r', r ≠ r' → Disjoint (I r) (I r')) (hc : Finset.univ.biUnion I = Finset.univ) (f₀ : Buf (Elt F) ℓ) :
    (bigSep Finset.univ fun r => iprop(∃ f : Buf (Elt F) ℓ, ℓ ↦[I r]{fullShare} f) : sProp 𝕄) ⊢ iprop(∃ f : Buf (Elt F) ℓ, ℓ ↦{fullShare} f) :=
  Ring.pointsTo_blocks_join_exists I hd hc f₀

/-! ## The scratches -/

/-- The elements of a scratch's chunk. -/
theorem cut_set (b : Ref sig .tc) (r : Rect b.ty.shape) : ((View.whole b).slice r).set = r.set := View.set_slice_whole b r

theorem split_Zs : whAny (F := F) c cc0_scratch2 ⊢ S16 (F := F) (chkAny (F := F) mZs c) :=
  any_split (ℓ := (c : Thread nD τ).loc cc0_scratch2) (fun r => (cut mZs r).view.set)
    (fun r r' h => by rw [cut_set, cut_set]; exact rC_disj r r' h) (by simp only [cut_set]; exact rC_cover)
theorem split_Z : whAny (F := F) c cc0_scratch3 ⊢ S16 (F := F) (chkAny (F := F) mZ c) :=
  any_split (ℓ := (c : Thread nD τ).loc cc0_scratch3) (fun r => (cut mZ r).view.set)
    (fun r r' h => by rw [cut_set, cut_set]; exact rC_disj r r' h) (by simp only [cut_set]; exact rC_cover)
theorem split_X : whAny (F := F) c cc0_scratch4 ⊢ S16 (F := F) (chkAny (F := F) mX c) :=
  any_split (ℓ := (c : Thread nD τ).loc cc0_scratch4) (fun r => (cut mX r).view.set)
    (fun r r' h => by rw [cut_set, cut_set]; exact rC_disj r r' h) (by simp only [cut_set]; exact rC_cover)
theorem split_Y : whAny (F := F) c cc0_scratch5 ⊢ S16 (F := F) (chkAny (F := F) mY c) :=
  any_split (ℓ := (c : Thread nD τ).loc cc0_scratch5) (fun r => (cut mY r).view.set)
    (fun r r' h => by rw [cut_set, cut_set]; exact rC_disj r r' h) (by simp only [cut_set]; exact rC_cover)
theorem split_D : whAny (F := F) c cc0_scratch6 ⊢ S16 (F := F) (chkAny (F := F) mD c) :=
  any_split (ℓ := (c : Thread nD τ).loc cc0_scratch6) (fun r => (cut mD r).view.set)
    (fun r r' h => by rw [cut_set, cut_set]; exact rC_disj r r' h) (by simp only [cut_set]; exact rC_cover)

theorem joinC_Zs (A : Dev nD → main_arg0.ty.Contents (Elt F)) : S16 (F := F) (chkAny (F := F) mZs c) ⊢ whAny (F := F) c cc0_scratch2 :=
  any_join (ℓ := (c : Thread nD τ).loc cc0_scratch2) (fun r => (cut mZs r).view.set)
    (fun r r' h => by rw [cut_set, cut_set]; exact rC_disj r r' h) (by simp only [cut_set]; exact rC_cover) (cZ A 0)
theorem joinC_Z (A : Dev nD → main_arg0.ty.Contents (Elt F)) : S16 (F := F) (chkAny (F := F) mZ c) ⊢ whAny (F := F) c cc0_scratch3 :=
  any_join (ℓ := (c : Thread nD τ).loc cc0_scratch3) (fun r => (cut mZ r).view.set)
    (fun r r' h => by rw [cut_set, cut_set]; exact rC_disj r r' h) (by simp only [cut_set]; exact rC_cover) (cZ A 0)
theorem joinC_X (A : Dev nD → main_arg0.ty.Contents (Elt F)) : S16 (F := F) (chkAny (F := F) mX c) ⊢ whAny (F := F) c cc0_scratch4 :=
  any_join (ℓ := (c : Thread nD τ).loc cc0_scratch4) (fun r => (cut mX r).view.set)
    (fun r r' h => by rw [cut_set, cut_set]; exact rC_disj r r' h) (by simp only [cut_set]; exact rC_cover) (cZ A 0)
theorem joinC_Y (A : Dev nD → main_arg0.ty.Contents (Elt F)) : S16 (F := F) (chkAny (F := F) mY c) ⊢ whAny (F := F) c cc0_scratch5 :=
  any_join (ℓ := (c : Thread nD τ).loc cc0_scratch5) (fun r => (cut mY r).view.set)
    (fun r r' h => by rw [cut_set, cut_set]; exact rC_disj r r' h) (by simp only [cut_set]; exact rC_cover) (cZ A 0)
theorem joinC_D (A : Dev nD → main_arg0.ty.Contents (Elt F)) : S16 (F := F) (chkAny (F := F) mD c) ⊢ whAny (F := F) c cc0_scratch6 :=
  any_join (ℓ := (c : Thread nD τ).loc cc0_scratch6) (fun r => (cut mD r).view.set)
    (fun r r' h => by rw [cut_set, cut_set]; exact rC_disj r r' h) (by simp only [cut_set]; exact rC_cover) (cZ A 0)

theorem any_pt (b : Ref sig .tc) : whAny (F := F) c b = ptAny (F := F) c b := by
  unfold ptAny; simp only [pt_wh]

/-! ## What is lent -/

/-- A whole scratch lent as sixteen landing chunks. -/
theorem mk_land16 (B : Memref sig .tc .vmem S512x2048 .fp8e4m3) (S : Fin 16 → DmaSem sig) (hS : ∀ r, 2 ≤ (S r).val) :
    iprop(rch (F := F) c ∗ S16 (F := F) (chkAny (F := F) B c)) ⊢ land16 (F := F) B S c := by
  unfold land16
  iintro ⟨#HR, H⟩
  iapply (Entails.of_eq (bigSep_sep' Finset.univ (fun r => chkAny (F := F) B c r) (fun r => reached (ER (F := F)) (dm c (S r)) 0)).symm)
  isplitl [H]; · iexact H
  iapply (BI.bigSep_of_persistent (M := 𝕄) Finset.univ (rch (F := F) c) |>.trans (bigSep_mono fun r _ => rch_at c (S r) (hS r)))
  iexact HR
/-- Eight chunks of it lent. -/
theorem mk_land8 (B : Memref sig .tc .vmem S512x2048 .fp8e4m3) (S : Fin 16 → DmaSem sig) (h : Fin 8 → Fin 16) (hS : ∀ r, 2 ≤ (S r).val) :
    iprop(rch (F := F) c ∗ S8 (F := F) (fun k => chkAny (F := F) B c (h k))) ⊢ land8 (F := F) B S h c := by
  unfold land8
  iintro ⟨#HR, H⟩
  iapply (Entails.of_eq (bigSep_sep' Finset.univ (fun k => chkAny (F := F) B c (h k)) (fun k => reached (ER (F := F)) (dm c (S (h k))) 0)).symm)
  isplitl [H]; · iexact H
  iapply (BI.bigSep_of_persistent (M := 𝕄) Finset.univ (rch (F := F) c) |>.trans (bigSep_mono fun k _ => rch_at c (S (h k)) (hS (h k))))
  iexact HR

/-- All that a core lends its neighbours at the barrier. -/
theorem mk_lends : iprop(rch (F := F) c ∗ whAny (F := F) c cc0_scratch3 ∗ whAny (F := F) c cc0_scratch4 ∗ whAny (F := F) c cc0_scratch5
    ∗ whAny (F := F) c cc0_scratch6) ⊢ lends (F := F) c := by
  unfold lends
  iintro ⟨#HR, HZ, HX, HY, HD⟩
  ihave HZ := (split_Z (F := F) c) $$ HZ
  ihave HX := (split_X (F := F) c) $$ HX
  ihave HY := (split_Y (F := F) c) $$ HY
  ihave HD := (split_D (F := F) c) $$ HD
  ihave HD := (Entails.of_eq (split16 (F := F) (chkAny (F := F) mD c))) $$ HD
  icases HD with ⟨HDl, HDh⟩
  isplitl [HZ]
  · iapply (mk_land16 c mZ zrS fun r => by rw [zr_val]; omega)
    isplitr; · iexact HR
    iexact HZ
  isplitl [HX HDl]
  · isplitl [HX]
    · iapply (mk_land16 c mX xrS fun r => by rw [xr_val]; omega)
      isplitr; · iexact HR
      iexact HX
    iapply (mk_land8 c mD drS lo fun r => by rw [dr_val]; omega)
    isplitr; · iexact HR
    iexact HDl
  isplitl [HY]
  · iapply (mk_land16 c mY yrS fun r => by rw [yr_val]; omega)
    isplitr; · iexact HR
    iexact HY
  iapply (mk_land8 c mD drS hi fun r => by rw [dr_val]; omega)
  isplitr; · iexact HR
  iexact HDh

/-! ## The result, by blocks -/

/-- The quarter in each place, seen from a core, and the chunk. -/
def place (c : Dev nD) (i : Fin 4) : Fin 4 := if i = 0 then qm c else if i = 1 then qx c else if i = 2 then qy c else qw c

theorem place_inj : ∀ c : Dev nD, Function.Injective (place c) := by decide
theorem blk_inj : Function.Injective fun p : Fin 4 × Fin 16 => blk p.1 p.2 := by
  rintro ⟨s, r⟩ ⟨s', r'⟩ h
  have h := congrArg Fin.val h
  simp only [blk] at h
  exact Prod.ext (Fin.ext (by simp only; omega)) (Fin.ext (by simp only; omega))

/-- The sixty-four blocks, numbered from the core's place. -/
def sq (c : Dev nD) (p : Fin 4 × Fin 16) : Fin 64 := blk (place c p.1) p.2
/-- The four bands, as a core orders them, are all four. -/
theorem sq_bij (c : Dev nD) : Function.Bijective (sq c) := by
  rw [Fintype.bijective_iff_injective_and_card]
  refine ⟨fun p p' h => ?_, by decide⟩
  have h : (place c p.1, p.2) = (place c p'.1, p'.2) := blk_inj h
  exact Prod.ext (place_inj c (Prod.mk.inj h).1) (Prod.mk.inj h).2

theorem four (Φ : Fin 4 → Fin 16 → sProp 𝕄) :
    bigSep Finset.univ (fun p : Fin 4 × Fin 16 => Φ p.1 p.2) = iprop(S16 (F := F) (Φ 0) ∗ S16 (F := F) (Φ 1) ∗ S16 (F := F) (Φ 2) ∗ S16 (F := F) (Φ 3)) := by
  rw [bigSep_univ_prod (fun p : Fin 4 × Fin 16 => Φ p.1 p.2), show (Finset.univ : Finset (Fin 4)) = {0, 1, 2, 3} from by decide, bigSep_insert (by decide),
    bigSep_insert (by decide), bigSep_insert (by decide), bigSep_singleton]
  rfl

/-- The elements of a block of the result. -/
abbrev oSet (p : Fin 4 × Fin 16) : Finset (Idx ((c : Thread nD τ).loc cc0_stg1_0)) :=
  ((mO : Memref sig .tc .vmem S2048x2048 .f32).access (rO (sq c p))).set

/-- The result's blocks do not overlap. -/
theorem oSet_disj (p p' : Fin 4 × Fin 16) (h : p ≠ p') : Disjoint (oSet c p) (oSet c p') := by
  rw [show oSet c p = (rO (sq c p)).set from cut_set cc0_stg1_0 (rO (sq c p)), show oSet c p' = (rO (sq c p')).set from cut_set cc0_stg1_0 (rO (sq c p'))]
  exact rO_disj _ _ fun e => h ((sq_bij c).1 e)
/-- They cover the result. -/
theorem oSet_cover : Finset.univ.biUnion (oSet c) = Finset.univ := by
  have e : oSet c = fun p => (rO (sq c p)).set := funext fun p => cut_set cc0_stg1_0 (rO (sq c p))
  rw [e]
  have h := rO_cover
  ext i
  simp only [Finset.mem_biUnion, Finset.mem_univ, true_and, iff_true]
  have hi := Finset.mem_univ i
  rw [← h] at hi
  obtain ⟨b, -, hb⟩ := Finset.mem_biUnion.mp hi
  obtain ⟨p, rfl⟩ := (sq_bij c).2 b
  exact ⟨p, hb⟩

/-- The result's buffer as blocks still to be written. -/
theorem mk_out0 : whAny (F := F) c cc0_stg1_0 ⊢ out0 (F := F) c := by
  refine (any_split (ℓ := (c : Thread nD τ).loc cc0_stg1_0) (oSet c) (oSet_disj c) (oSet_cover c)).trans ?_
  exact Entails.of_eq (four fun i r => oAny (F := F) c (place c i) r)
/-- The written blocks make the whole result. -/
theorem of_out1 : out1 A G c ⊢ wh c cc0_stg1_0 (tgt A G c) := by
  refine (Entails.of_eq (four fun i r => oblk c (place c i) r (tgt A G c)).symm).trans ?_
  exact Entails.of_eq (Ring.pointsTo_blocks (oSet c) (oSet_disj c) (oSet_cover c) (tgt A G c)).symm

/-! ## The partial sums -/

/-- The two parts that the local copies read, each at a share, and the way back. -/
theorem arg_split : wh c main_arg0 (A c)
    ⊢ iprop((srcSPt A c qa ∗ srcLPt A c qb) ∗ ((srcSPt A c qa ∗ srcLPt A c qb) -∗ wh c main_arg0 (A c))) := by
  show (_ : sProp 𝕄) ⊢ _
  iintro H
  ihave H := (pointsTo_share (PosShare.mem_left_op_right fullShare)).1 $$ H
  icases H with ⟨Ha, Hb⟩
  ihave Ha := (pointsTo_split_subset (I := (srcS c).view.set) (Finset.subset_univ _)).1 $$ Ha
  ihave Hb := (pointsTo_split_subset (I := (srcL c).view.set) (Finset.subset_univ _)).1 $$ Hb
  icases Ha with ⟨Ha, Ha'⟩
  icases Hb with ⟨Hb, Hb'⟩
  isplitl [Ha Hb]; · isplitl [Ha] <;> iassumption
  iintro ⟨Ha, Hb⟩
  iapply (pointsTo_share (PosShare.mem_left_op_right fullShare)).2
  isplitl [Ha Ha']
  · iapply (pointsTo_split_subset (I := (srcS c).view.set) (Finset.subset_univ _)).2
    isplitl [Ha] <;> iassumption
  · iapply (pointsTo_split_subset (I := (srcL c).view.set) (Finset.subset_univ _)).2
    isplitl [Hb] <;> iassumption

/-! ## The counters at the end -/

/-- Every cell closed, its counter at zero. -/
theorem close_all : iprop(invs A K ∗ atsDone (F := F) c)
    ⊢ (|={Set.univ}=> iprop(semVal (bar c) 0 ∗ bigSep Finset.univ (fun k : Fin 130 => semVal ((c : Thread nD τ), osem k) 0)) : sProp 𝕄) := by
  unfold atsDone
  iintro ⟨#HI, HB, HD⟩
  imod (show iprop(cellInv (ER (F := F)) (Rd A) (K (bar c)) (bar c) ∗ atPos (ER (F := F)) (bar c) 1 ∅ 0) ⊢ (|={Set.univ}=> semVal (bar c) 0 : sProp 𝕄) from
    cell_close (ER (F := F)) (Rd A) (Set.mem_univ (K (bar c))) id (duties_later A (bar c))) $$ [HB] with HB
  · isplitr; · iapply (inv_bar A K c); iexact HI
    iexact HB
  imod (show _ ⊢ (|={Set.univ}=> bigSep Finset.univ (fun k : Fin 130 => semVal (dm c (own k)) 0) : sProp 𝕄) from cells_close (ER (F := F)) (Rd A) Finset.univ (fun k : Fin 130 => dm c (own k)) (fun k => K (dm c (own k))) (fun _ _ => Set.mem_univ _)
      (fun _ _ => id) (fun _ => 1) (fun k _ => duties_later A (dm c (own k)))) $$ [HD] with HD
  · iapply (Entails.of_eq (bigSep_sep' Finset.univ (fun k : Fin 130 => cellInv (ER (F := F)) (Rd A) (K (dm c (own k))) (dm c (own k)))
      (fun k => done (F := F) c (own k))).symm)
    isplitr [HD]
    · iapply (BI.bigSep_of_persistent (M := 𝕄) Finset.univ (invs A K) |>.trans (bigSep_mono fun k _ => inv_dm A K c (own k) (by simp only [own]; omega)))
      iexact HI
    iexact HD
  imodintro
  isplitl [HB]; · iexact HB
  iexact HD

end Cert.Proof.K

end
-- ==== Proof.Fund.lean ====
/-
What the launch gives: the credits of what the cores owe each other, and the duties' tokens dealt to those who pay them.
-/
module

public import proofs.«01_k».proof.Proof.Mem

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (c : Dev nD)

/-! ## Credits -/

/-- Every core owes its neighbour: every core is owed by its neighbour. -/
theorem cred_swap (f : Dev nD → Dev nD) (hf : Function.Involutive f) (sm : SemLoc sig) (n : ℕ) :
    (Pipeline.launchCred (fun d => tallyAt (((f d).tc : Thread nD τ), sm) () n) c : sProp 𝕄) = cred (tallyAt ((c.tc : Thread nD τ), sm) () n) := by
  have hT : ∀ (d : Dev nD) (g : GSem nD τ sig),
      (tallyAt ((d.tc : Thread nD τ), sm) () n : CellTallies nD τ sig Unit) g ≠ 0 → g.1 = (d.tc : Thread nD τ) := by
    intro d g h
    by_contra hg
    exact h (tallyAt_ne_cell (fun e => hg (congrArg (fun x : GSem nD τ sig => x.1) e)) () n)
  have hS : (∑ d : Dev nD, (tallyAt (((f d).tc : Thread nD τ), sm) () n : CellTallies nD τ sig Unit))
      = ∑ d : Dev nD, tallyAt ((d.tc : Thread nD τ), sm) () n :=
    Equiv.sum_comp hf.toPerm fun d : Dev nD => (tallyAt ((d.tc : Thread nD τ), sm) () n : CellTallies nD τ sig Unit)
  exact Pipeline.launchCred_of_sum _ _ hS hT c

/-- The credits of a list of debts, one for each. -/
theorem cred_list {α : Type} (t : Dev nD → α → CellTallies nD τ sig Unit) : ∀ l : List α,
    (Pipeline.launchCred (fun d => sumL (t d) l) c : sProp 𝕄) = bigSepL l fun a => Pipeline.launchCred (fun d => t d a) c
  | [] => Pipeline.launchCred_zero c
  | a :: l => by
    rw [bigSepL_cons', ← cred_list t l, show (fun d => sumL (t d) (a :: l)) = fun d => sumL (t d) l + t d a from rfl,
      Pipeline.launchCred_add (fun d => sumL (t d) l) (fun d => t d a)]
    exact BI.Entails.antisymm BI.sep_comm BI.sep_comm

theorem list16 (Φ : Fin 16 → sProp 𝕄) : bigSepL all16 Φ = S16 (F := F) Φ := (bigSep_univ_eq_bigSepL all16 (by decide) (by decide) Φ).symm
theorem list8 (Φ : Fin 8 → sProp 𝕄) : bigSepL all8 Φ = S8 (F := F) Φ := (bigSep_univ_eq_bigSepL all8 (by decide) (by decide) Φ).symm

/-- The credits of the copies over z. -/
theorem cred_Z : (Pipeline.launchCred (fun d => sumL (tZ d) all16) c : sProp 𝕄) = S16 (F := F) (fun r => sent (F := F) c (zrS r)) := by
  rw [cred_list, list16]
  exact bigSep_congr fun r _ => cred_swap c nz nz_nz (.dma (zrS r)) N
/-- The credits of the forwards over x and y. -/
theorem cred_F : (Pipeline.launchCred (fun d => sumL (tF d) all16) c : sProp 𝕄)
    = iprop(S16 (F := F) (fun r => sent (F := F) c (yrS r)) ∗ S16 (F := F) (fun r => sent (F := F) c (xrS r))) := by
  rw [cred_list, list16, ← sep16]
  refine bigSep_congr fun r _ => ?_
  rw [show (fun d => tF d r) = fun d => tallyAt (dm (ny d) (yrS r)) () N + tallyAt (dm (nx d) (xrS r)) () N from rfl,
    Pipeline.launchCred_add (fun d => tallyAt (dm (ny d) (yrS r)) () N) (fun d => tallyAt (dm (nx d) (xrS r)) () N),
    cred_swap c ny ny_ny (.dma (yrS r)) N, cred_swap c nx nx_nx (.dma (xrS r)) N]
  rfl
/-- The credits of the last hops over x. -/
theorem cred_A : (Pipeline.launchCred (fun d => sumL (tA d) all8) c : sProp 𝕄) = S8 (F := F) (fun k => sent (F := F) c (drS (lo k))) := by
  rw [cred_list, list8]
  exact bigSep_congr fun k _ => cred_swap c nx nx_nx (.dma (drS (lo k))) N
/-- The credits of the last hops over y. -/
theorem cred_B : (Pipeline.launchCred (fun d => sumL (tB d) all8) c : sProp 𝕄) = S8 (F := F) (fun k => sent (F := F) c (drS (hi k))) := by
  rw [cred_list, list8]
  exact bigSep_congr fun k _ => cred_swap c ny ny_ny (.dma (drS (hi k))) N

theorem cred_oZ : (Pipeline.launchCred oZ c : sProp 𝕄)
    = iprop(S16 (F := F) (fun r => sent (F := F) c (zrS r)) ∗ (S16 (F := F) (fun r => sent (F := F) c (yrS r)) ∗ S16 (F := F) (fun r => sent (F := F) c (xrS r)))
      ∗ S8 (F := F) (fun k => sent (F := F) c (drS (lo k))) ∗ S8 (F := F) (fun k => sent (F := F) c (drS (hi k)))) := by
  rw [show (oZ : Dev nD → _) = fun d => sumL (tZ d) all16 + oF d from rfl, Pipeline.launchCred_add (fun d => sumL (tZ d) all16) oF, cred_Z,
    show (oF : Dev nD → _) = fun d => sumL (tF d) all16 + oA d from rfl, Pipeline.launchCred_add (fun d => sumL (tF d) all16) oA, cred_F,
    show (oA : Dev nD → _) = fun d => sumL (tA d) all8 + oB d from rfl, Pipeline.launchCred_add (fun d => sumL (tA d) all8) oB, cred_A,
    show (oB : Dev nD → _) = fun d => sumL (tB d) all8 from rfl, cred_B]

theorem cred_O₀ : (Pipeline.launchCred O₀ c : sProp 𝕄)
    = iprop(((Pipeline.launchCred oZ c ∗ cred (tallyAt (bar c) () 1)) ∗ cred (tallyAt (bar c) () 1)) ∗ cred (tallyAt (bar c) () 1)) := by
  rw [show (O₀ : Dev nD → _) = fun d => (oZ d + tallyAt (bar (ny d)) () 1 + tallyAt (bar (nx d)) () 1) + tallyAt (bar (nz d)) () 1 from rfl,
    Pipeline.launchCred_add (fun d => oZ d + tallyAt (bar (ny d)) () 1 + tallyAt (bar (nx d)) () 1) (fun d => tallyAt (bar (nz d)) () 1),
    Pipeline.launchCred_add (fun d => oZ d + tallyAt (bar (ny d)) () 1) (fun d => tallyAt (bar (nx d)) () 1),
    Pipeline.launchCred_add oZ (fun d => tallyAt (bar (ny d)) () 1),
    cred_swap c nz nz_nz (.reg barS) 1, cred_swap c nx nx_nx (.reg barS) 1, cred_swap c ny ny_ny (.reg barS) 1]

/-- All that a core is owed, as credits sorted by semaphore. -/
theorem mk_creds : (Pipeline.launchCred O₀ c : sProp 𝕄) ⊢ creds (F := F) c := by
  rw [cred_O₀, cred_oZ]
  unfold creds
  show (_ : sProp 𝕄) ⊢ _
  iintro ⟨⟨⟨⟨HZ, ⟨HY, HX⟩, HDl, HDh⟩, H1⟩, H2⟩, H3⟩
  isplitl [H1 H2 H3]
  · iapply (Entails.of_eq (congrArg (fun T => (cred T : sProp 𝕄)) (show tallyAt (bar c) () 1 + (tallyAt (bar c) () 1 + tallyAt (bar c) () 1)
      = (tallyAt (bar c) () 3 : CellTallies nD τ sig Unit) by rw [tallyAt_add, tallyAt_add])))
    iapply (cred_add _ _).2
    isplitl [H1]; · iexact H1
    iapply (cred_add _ _).2
    isplitl [H2] <;> iassumption
  isplitl [HZ]; · iexact HZ
  isplitl [HX]; · iexact HX
  isplitl [HY]; · iexact HY
  iapply (Entails.of_eq (split16 (F := F) (fun r => sent (F := F) c (drS r))).symm)
  isplitl [HDl] <;> iassumption

/-! ## Tokens -/

/-- A family over the cores, each taken at its neighbour. -/
theorem swap (f : Dev nD → Dev nD) (hf : Function.Involutive f) (Φ : Dev nD → sProp 𝕄) :
    bigSep Finset.univ Φ = bigSep Finset.univ fun c => Φ (f c) := bigSep_univ_equiv hf.toPerm Φ

def barTok : Dev nD × Fin 3 ↪ GSem nD τ sig × ℕ × Fin 3 :=
  ⟨fun p => (bar p.1, 0, p.2), fun _ _ h => Prod.ext (congrArg (fun t : GSem nD τ sig × ℕ × Fin 3 => t.1.1.1) h) (congrArg (fun t : GSem nD τ sig × ℕ × Fin 3 => t.2.2) h)⟩
def dmTok : Dev nD × Fin 130 ↪ GSem nD τ sig × ℕ × Fin 3 :=
  ⟨fun p => (dm p.1 (own p.2), 0, 0), fun _ _ h => dmEmb.injective (congrArg (fun t : GSem nD τ sig × ℕ × Fin 3 => t.1) h)⟩

/-- Every duty. -/
def toks : Finset (GSem nD τ sig × ℕ × Fin 3) := Finset.univ.map barTok ∪ Finset.univ.map dmTok

/-- The tokens of the barriers are none of those of the copies. -/
theorem toks_disj : Disjoint (Finset.univ.map barTok) (Finset.univ.map dmTok) := by
  rw [Finset.disjoint_left]
  rintro g h₁ h₂
  obtain ⟨p, -, rfl⟩ := Finset.mem_map.mp h₁
  obtain ⟨q, -, h⟩ := Finset.mem_map.mp h₂
  have h' : (SemLoc.dma (own q.2) : SemLoc sig) = .reg barS := congrArg (fun t : GSem nD τ sig × ℕ × Fin 3 => t.1.2) h
  cases h'

/-- Nor are their cells. -/
theorem cells_disj : Disjoint (barCells : Finset (GSem nD τ sig)) dmCells := by
  rw [Finset.disjoint_left]
  rintro g h₁ h₂
  obtain ⟨p, -, rfl⟩ := Finset.mem_map.mp h₁
  obtain ⟨q, -, h⟩ := Finset.mem_map.mp h₂
  have h' : (SemLoc.dma (own q.2) : SemLoc sig) = .reg barS := congrArg (fun t : GSem nD τ sig => t.2) h
  cases h'

/-- The tokens, sorted by cell. -/
theorem toks_eq : bigSep toks (fun x => (dutyTok (ER (F := F)) x.1 x.2.1 x.2.2 : sProp 𝕄))
    = iprop((bigSep Finset.univ fun c : Dev nD => iprop(dutyTok (ER (F := F)) (bar c) 0 0 ∗ dutyTok (ER (F := F)) (bar c) 0 1 ∗ dutyTok (ER (F := F)) (bar c) 0 2))
      ∗ bigSep Finset.univ fun c : Dev nD => bigSep Finset.univ fun k : Fin 130 => tok (F := F) c (own k)) := by
  unfold toks
  rw [bigSep_union toks_disj, bigSep_map, bigSep_map, bigSep_univ_prod, bigSep_univ_prod]
  congr 1
  refine bigSep_congr fun c _ => ?_
  rw [show (Finset.univ : Finset (Fin 3)) = {0, 1, 2} from by decide, bigSep_insert (by decide), bigSep_insert (by decide), bigSep_singleton]
  rfl

/-- The barriers' tokens, dealt to the neighbours that signal. -/
theorem deal_bar : (bigSep Finset.univ fun c : Dev nD => iprop(dutyTok (ER (F := F)) (bar c) 0 0 ∗ dutyTok (ER (F := F)) (bar c) 0 1 ∗ dutyTok (ER (F := F)) (bar c) 0 2))
    = bigSep Finset.univ fun c : Dev nD => barToks (F := F) c := by
  unfold barToks
  rw [bigSep_sep', bigSep_sep', bigSep_sep', bigSep_sep', swap nz nz_nz (fun c => dutyTok (ER (F := F)) (bar c) 0 0),
    swap nx nx_nx (fun c => dutyTok (ER (F := F)) (bar c) 0 1), swap ny ny_ny (fun c => dutyTok (ER (F := F)) (bar c) 0 2)]

/-- The copies' tokens, dealt to the cores that start them. -/
theorem deal_dm : (bigSep Finset.univ fun c : Dev nD => bigSep Finset.univ fun k : Fin 130 => tok (F := F) c (own k))
    ⊢ bigSep Finset.univ fun c : Dev nD => iprop(remToks (F := F) c ∗ ownToks (F := F) c) := by
  rw [bigSep_congr (s := Finset.univ) fun (c : Dev nD) _ => own_split (F := F) (fun s => tok (F := F) c s),
    bigSep_congr (s := Finset.univ) fun (c : Dev nD) _ => show iprop(remToks (F := F) c ∗ ownToks (F := F) c) = _ by unfold remToks ownToks; rfl]
  simp only [bigSep_sep' (Finset.univ : Finset (Dev nD))]
  show (_ : sProp 𝕄) ⊢ _
  iintro ⟨⟨Hl0, Hl1⟩, Hzs, Hzr, Hxs, Hxr, Hys, Hyr, Hrx, Hry, Hdr⟩
  ihave Hzr := (Entails.of_eq (swap nz nz_nz (fun c => S16 (F := F) (fun r => tok (F := F) c (zrS r))))) $$ Hzr
  ihave Hxr := (Entails.of_eq (swap nx nx_nx (fun c => S16 (F := F) (fun r => tok (F := F) c (xrS r))))) $$ Hxr
  ihave Hyr := (Entails.of_eq (swap ny ny_ny (fun c => S16 (F := F) (fun r => tok (F := F) c (yrS r))))) $$ Hyr
  ihave Hdr := (Entails.of_eq ((bigSep_congr (s := Finset.univ) fun (c : Dev nD) _ => split16 (F := F) (fun r => tok (F := F) c (drS r))).trans (bigSep_sep' _ _ _))) $$ Hdr
  icases Hdr with ⟨Hdl, Hdh⟩
  ihave Hdl := (Entails.of_eq (swap nx nx_nx (fun c => S8 (F := F) (fun k => tok (F := F) c (drS (lo k)))))) $$ Hdl
  ihave Hdh := (Entails.of_eq (swap ny ny_ny (fun c => S8 (F := F) (fun k => tok (F := F) c (drS (hi k)))))) $$ Hdh
  isplitl [Hzr Hxr Hyr Hdl Hdh]
  · isplitl [Hzr]; · iexact Hzr
    isplitl [Hxr]; · iexact Hxr
    isplitl [Hyr]; · iexact Hyr
    isplitl [Hdl]; · iexact Hdl
    iexact Hdh
  isplitl [Hl0 Hl1]
  · isplitl [Hl0]; · iexact Hl0
    iexact Hl1
  isplitl [Hzs]; · iexact Hzs
  isplitl [Hxs]; · iexact Hxs
  isplitl [Hys]; · iexact Hys
  isplitl [Hrx]; · iexact Hrx
  iexact Hry

end Cert.Proof.K

end
-- ==== Proof.Core.lean ====
/-
The whole body on one core, from whole buffers to whole buffers, every counter back at zero.
-/
module

public import proofs.«01_k».proof.Proof.Fund

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (A : Dev nD → main_arg0.ty.Contents (Elt F)) (G : Dev nD → cc0_stg0_0.ty.Contents (Elt F))
  (K : GSem nD τ sig → ℕ) (c : Dev nD)

/-- The seven scratches, at contents not chosen. -/
def scr : sProp 𝕄 :=
  iprop(whAny (F := F) c cc0_scratch0 ∗ whAny (F := F) c cc0_scratch1 ∗ whAny (F := F) c cc0_scratch2 ∗ whAny (F := F) c cc0_scratch3
    ∗ whAny (F := F) c cc0_scratch4 ∗ whAny (F := F) c cc0_scratch5 ∗ whAny (F := F) c cc0_scratch6)

/-- The core's part of the protocol when its region is entered. -/
def opened : sProp 𝕄 :=
  iprop((pers A K c ∗ barRch (F := F) c) ∗ (barToks (F := F) c ∗ remToks (F := F) c ∗ ownToks (F := F) c) ∗ creds (F := F) c ∗ ats (F := F) c)

/-- The counters of the core's own semaphores, at zero. -/
def zeros : sProp 𝕄 := bigSep Finset.univ fun k : Fin 130 => semVal ((c : Thread nD τ), osem k) 0

/-- What a core's body takes, in whole buffers. -/
def corePre : sProp 𝕄 :=
  iprop(opened A K c ∗ scr (F := F) c ∗ wh c main_arg0 (A c) ∗ ow (F := F) c (O₀ c) ∗ wh c cc0_stg0_0 (G c) ∗ whAny (F := F) c cc0_stg1_0)
/-- What a core's body leaves, in whole buffers, every counter at zero. -/
def corePost : sProp 𝕄 :=
  iprop((semVal (bar c) 0 ∗ zeros (F := F) c) ∗ scr (F := F) c ∗ wh c main_arg0 (A c) ∗ ow (F := F) c 0 ∗ wh c cc0_stg0_0 (G c)
    ∗ wh c cc0_stg1_0 (tgt A G c))

/-- The buffers as the body wants them, and the way back. -/
theorem to_body : corePre A G K c ⊢ iprop(bodyPre A G K c ∗ ((srcSPt A c qa ∗ srcLPt A c qb) -∗ wh c main_arg0 (A c))) := by
  unfold corePre opened scr bodyPre keep
  rw [pt_wh, ← any_pt, ← any_pt]
  show (_ : sProp 𝕄) ⊢ _
  iintro ⟨⟨⟨#Hp, #Hbr⟩, Ht, Hc, Ha⟩, ⟨H0, H1, H2, H3, H4, H5, H6⟩, HA, HO, HG, Hout⟩
  ihave HA' := (arg_split A c) $$ HA
  icases HA' with ⟨HA, Hk⟩
  isplitr [Hk]
  · isplitr
    · isplitr; · iexact Hp
      iexact Hbr
    isplitl [HO]; · iexact HO
    isplitl [Ht]; · iexact Ht
    isplitl [Hc]; · iexact Hc
    isplitl [Ha]; · iexact Ha
    isplitl [H2]; · iapply (split_Zs (F := F) c); iexact H2
    isplitl [H3 H4 H5 H6]
    · iapply (mk_lends (F := F) c)
      isplitr
      · unfold pers
        icases Hp with ⟨-, -, #Hr⟩
        iexact Hr
      isplitl [H3]; · iexact H3
      isplitl [H4]; · iexact H4
      isplitl [H5]; · iexact H5
      iexact H6
    isplitl [H0 H1 HA]
    · isplitl [H1]; · iexact H1
      isplitl [H0]; · iexact H0
      iexact HA
    isplitl [Hout]; · iapply (mk_out0 (F := F) c); iexact Hout
    iexact HG
  iexact Hk

/-- Out of what the pieces leave: the buffers whole again, the cells closed at zero. -/
theorem of_body : iprop(bodyPost A G K c ∗ ((srcSPt A c qa ∗ srcLPt A c qb) -∗ wh c main_arg0 (A c)))
    ⊢ (|={Set.univ}=> corePost A G c : sProp 𝕄) := by
  unfold corePost scr bodyPost keep chunks zeros
  rw [pt_wh, ← any_pt, ← any_pt]
  show (_ : sProp 𝕄) ⊢ _
  iintro ⟨⟨#Hp, HO, Ha, ⟨H2, H3, H4, H5, H6⟩, ⟨H1, H0, HA⟩, Hout, HG⟩, Hk⟩
  imod (close_all A K c) $$ [Ha] with Hz
  · isplitr
    · unfold pers
      icases Hp with ⟨#HI, -⟩
      iexact HI
    iexact Ha
  imodintro
  isplitl [Hz]; · iexact Hz
  isplitl [H0 H1 H2 H3 H4 H5 H6]
  · isplitl [H0]; · iexact H0
    isplitl [H1]; · iexact H1
    isplitl [H2]; · iapply (joinC_Zs (F := F) c A); iexact H2
    isplitl [H3]; · iapply (joinC_Z (F := F) c A); iexact H3
    isplitl [H4]; · iapply (joinC_X (F := F) c A); iexact H4
    isplitl [H5]; · iapply (joinC_Y (F := F) c A); iexact H5
    iapply (joinC_D (F := F) c A); iexact H6
  isplitl [HA Hk]; · iapply Hk; iexact HA
  isplitl [HO]; · iexact HO
  isplitl [HG]; · iexact HG
  iapply (of_out1 A G c); iexact Hout

/-- The body asks for its device and then runs the pieces. -/
theorem kbody_op : kbody (F := F) = Prog.op (TpuEff.deviceId) fun d => Pipeline.chain (pieces d) := by
  unfold kbody Prog.lift
  rw [Prog.bind_op]
  rfl

/-- So a run of the pieces is a run of the body. -/
theorem wp_kbody (Q : PUnit → sProp 𝕄) : wpc c (Pipeline.chain (pieces c)) Q ⊢ wpc c kbody Q := by
  rw [kbody_op]
  unfold wpc
  rw [wp_deviceId]

/-- A run framed, its end under an update. -/
theorem wpc_end (p : P F) (X Y Z W : sProp 𝕄) (h : X ⊢ wpc c p fun _ => Y) (h' : iprop(Y ∗ Z) ⊢ (|={Set.univ}=> W : sProp 𝕄)) :
    iprop(X ∗ Z) ⊢ wpc c p fun _ => W := by
  have e : iprop(X ∗ Z) ⊢ wpc c p fun _ => (iprop(|={Set.univ}=> W) : sProp 𝕄) := by
    iintro ⟨HX, HZ⟩
    iapply (wp_wand _ _ _ (Q := fun _ => Y)) $$ [HX]
    · iapply h; iexact HX
    iintro %_ HY
    iapply h'
    isplitl [HY] <;> iassumption
  exact e.trans (wp_fupd _ _ _ _ _)

/-- The body, once, at a symbolic device. -/
theorem run_core : corePre A G K c ⊢ wpc c kbody (fun _ => corePost A G c) :=
  (to_body A G K c).trans ((wpc_end c (Pipeline.chain (pieces c)) _ _ _ _
    (body_run A G K c (fun _ => bodyPost A G K c) .rfl) (of_body A G K c)).trans (wp_kbody c _))

end Cert.Proof.K

end
-- ==== Proof.Data.lean ====
/-
The kernel's region: its data, and the obligation of its body.
-/
module

public import proofs.«01_k».proof.Proof.Core
public import proofs.«01_k».proof.Proof.Gen.KernelIdeal.Frame
public import Idealize.ShloMosaic.Lib.Pipeline.RegionTalk

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

/-- Each core's partial sums, as launched. -/
def argA : Dev nD → main_arg0.ty.Contents (Elt F) := fun c => m ((c : Thread nD τ).loc main_arg0)
/-- The scale, as each core's body finds it. -/
def argG : Dev nD → cc0_stg0_0.ty.Contents (Elt F) := fun c => iblk m c 0 t0_0
/-- What each core's body leaves in the result's staging buffer. -/
def res : Dev nD → cc0_stg1_0.ty.Contents (Elt F) := fun c => tgt (argA m) (argG m) c

/-- What enters the region's invariant, and what the last point leaves. -/
def Xk : sProp 𝕄 := iprop(∃ K, opened (argA m) K c)
def Φ₀ : sProp 𝕄 := iprop(Xk m c ∗ scr (F := F) c ∗ wh c main_arg0 (argA m c) ∗ ∃ r, prngReg c r)
def Φ₁ : sProp 𝕄 :=
  iprop((semVal (bar c) 0 ∗ zeros (F := F) c) ∗ scr (F := F) c ∗ wh c main_arg0 (argA m c) ∗ ∃ r, prngReg c r)

/-- The region's data: before its one point the core owes all its chunks and signals, after it nothing. -/
def dat : Dat τ (Elt F) Unit ℕ UU ℕ cfg0 c where
  A w := V m c (Pipeline.arrRef spec0 w)
  after w _ := match w with
    | ⟨0, _⟩ => argG m c
    | ⟨1, _⟩ => res m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ wh c b f) := by
  unfold owns wh; simp only [Memref.view_whole, View.read_whole, View.set_whole]

theorem owes_in (t : Fin (cfg0.N + 1)) (O : CellTallies nD τ sig Unit) (h : (dat m c).owed t = O) :
    ow (F := F) c O ⊢ (dat m c).owesAt () t := by
  unfold ow Dat.owesAt Pipeline.owesWithin Dat.bound
  rw [h, show (dat m c).recorded t = Set.univ from rfl]
  iintro ⟨%W, HO⟩; iexists W
  isplitr; · ipureintro; exact fun _ _ => Or.inl trivial
  iexact HO
theorem owes_out (t : Fin (cfg0.N + 1)) (O : CellTallies nD τ sig Unit) (h : (dat m c).owed t = O) :
    (dat m c).owesAt () t ⊢ ow (F := F) c O := by
  unfold ow Dat.owesAt Pipeline.owesWithin; rw [h]
  iintro ⟨%W, -, HO⟩; iexists W; iexact HO

/-- Before the point the staging buffer of the scale holds the scale. -/
theorem before_0 (d) : (dat m c).before 0 t0_0 d = argG m c := by
  unfold Dat.before
  rw [if_pos (fetch0_0 t0_0)]
  rfl

theorem row_eq : defs₀ (F := F) .tc cfg0.body (cfg0.bodyArgs t0_0 (cfg0.slots t0_0)) = kbody :=
  (show defs₀ (F := F) .tc cfg0.body (cfg0.bodyArgs t0_0 (cfg0.slots t0_0)) = bodyAt0 t0_0 from rfl).trans (body_eq t0_0)

/-- The body meets its obligation at the one point of the grid. -/
theorem body_ob : BodyObligation (dat m c) (defs₀ (F := F)) 𝒱₀ () Set.univ := fun t => by
  rw [fin_N0 t, bigSep_W0, bigSep_W0, row_eq]
  simp only [owns_eq, before_0]
  rw [show (dat m c).Φ t0_0.castSucc = Φ₀ m c from rfl, show (dat m c).Φ t0_0.succ = Φ₁ m c from rfl,
    show (dat m c).after 0 t0_0 = argG m c from rfl, show (dat m c).after 1 t0_0 = res m c from rfl]
  unfold Φ₀ Xk
  show (_ : sProp 𝕄) ⊢ _
  iintro ⟨⟨⟨%K, HX⟩, Hs, HA, Hp⟩, HO, ⟨%d0, %f0, %h0, H0⟩, ⟨%d1, %f1, -, H1⟩⟩
  iapply (wp_wand _ _ _ (Q := fun _ => corePost (argA m) (argG m) c)) $$ [HX Hs HA HO H0 H1]
  · iapply (run_core (argA m) (argG m) K c)
    unfold corePre
    isplitl [HX]; · iexact HX
    isplitl [Hs]; · iexact Hs
    isplitl [HA]; · iexact HA
    isplitl [HO]; · iapply (owes_out m c t0_0.castSucc (O₀ c) rfl); iexact HO
    isplitl [H0]; · rw [← h0]; iexact H0
    iexists f1; iexact H1
  unfold corePost Φ₁
  iintro %_ ⟨Hz, Hs, HA, HO, H0, H1⟩
  isplitl [Hz Hs HA Hp]
  · isplitl [Hz]; · iexact Hz
    isplitl [Hs]; · iexact Hs
    isplitl [HA]; · iexact HA
    iexact Hp
  isplitl [HO]; · iapply (owes_in m c t0_0.succ 0 rfl); iexact HO
  isplitl [H0]
  · iexists _; isplitr; · ipureintro; rfl
    iexact H0
  iexists _; isplitr; · ipureintro; rfl
  iexact H1

/-! ## The arrays after the region -/

/-- The array of the scale is not changed. -/
theorem arr_in : (dat m c).arrAt 0 cfg0.N = V m c main_v1 := (dat m c).arrAt_in (0 : Fin 2) rfl _

/-- The array of the result holds what the body left. -/
theorem arr_out : (dat m c).arrAt 1 cfg0.N = res m c := by
  rw [show cfg0.N = 0 + 1 from N_one]
  unfold Dat.arrAt
  rw [dif_pos (show 0 < cfg0.N by rw [N_one]; decide), if_pos (flush0_1 _)]
  exact Memref.write_access_unit_zero_univ (Elt F) main_v2 (funext fun a => Nat.zero_mul _) _ _ _

/-- The scale that the body finds is the reshaped argument. -/
theorem argG_eq : argG m c = V m c main_v1 := by
  unfold argG iblk
  exact Memref.readAt_unit_zero (Elt F) main_v1 (funext fun a => Nat.zero_mul _) _ _

end Cert.Proof.K

end
-- ==== Proof.Region.lean ====
/-
The kernel's region as a segment of the program.
-/
module

public import proofs.«01_k».proof.Proof.Data

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (c : Dev nD)

abbrev adm : (p : Fin 1) → (pcfgs (F := F) p).Adm := fun p => (cfgs p).toPCfg_adm
/-- The region's data, one region. -/
def pdats : (p : Fin 1) → (c : Dev nD) → Dat τ (Elt F) Unit ℕ UU ℕ (Pipeline.pin (pcfgs (F := F)) adm p) c := fun _ => dat m

/-! ## The unscoped buffers -/

/-- The core's buffers when the region is entered, and when it is left. -/
def V₁ : Valuation τ sig (Elt F) := StableHlo.after hostOps0 (fun b => m (c, b))
/-- The buffers after the region. -/
def V₂ : Valuation τ sig (Elt F) := Function.update (V₁ m c) (Proc.devRef .tc main_v2) (res m c)

theorem V₂_v2 : V₂ m c (Proc.devRef .tc main_v2) = res m c := Function.update_self _ _ _
theorem V₂_ne (b : Ref sig .tc) (h : (Proc.devRef .tc b : DevRef τ sig) ≠ Proc.devRef .tc main_v2) :
    V₂ m c (Proc.devRef .tc b) = V₁ m c (Proc.devRef .tc b) := Function.update_of_ne h _ _

/-- What the body addresses itself, and what else lies outside the windows. -/
def Hs : Finset (DevRef τ sig) := {Proc.devRef .tc main_arg0}
def Sr : Finset (DevRef τ sig) := {Proc.devRef .tc main_arg0, Proc.devRef .tc main_arg1}

theorem held_Hs (W : Valuation τ sig (Elt F)) : (StableHlo.held (c : Thread nD τ) Hs W : sProp 𝕄) = wh c main_arg0 (W (Proc.devRef .tc main_arg0)) := by
  unfold StableHlo.held
  rw [bigSep_eq_bigSepL_of_eq [Proc.devRef .tc main_arg0] (by decide) (by decide)]
  rfl

theorem V₁_arg0 : V₁ m c (Proc.devRef .tc main_arg0) = argA m c := V_main_arg0 m c
theorem V₂_arg0 : V₂ m c (Proc.devRef .tc main_arg0) = argA m c := (V₂_ne m c main_arg0 (by decide)).trans (V₁_arg0 m c)

/-! ## What enters the region -/

/-- The core's part of the protocol before its own counters are opened. -/
def before (K : GSem nD τ sig → ℕ) : sProp 𝕄 :=
  iprop(invs (argA m) K ∗ levAts L lv ∗ barRch (F := F) c ∗ (barToks (F := F) c ∗ remToks (F := F) c ∗ ownToks (F := F) c) ∗ creds (F := F) c
    ∗ atPos (ER (F := F)) (bar c) 0 ∅ 0 ∗ bigSep Finset.univ fun k : Fin 130 => openTok (ER (F := F)) (dm c (own k)))
def Tk : sProp 𝕄 := iprop(∃ K, before m c K)

theorem zeros_eq : (Pipeline.ownSems0 osem c : sProp 𝕄) = zeros (F := F) c := rfl

/-- At the start of the region the cells of the copies are opened. -/
theorem hopen : iprop(Tk m c ∗ Pipeline.ownSems0 osem c ∗ levAts L lv) ⊢ (|={Set.univ}=> Xk m c : sProp 𝕄) := by
  rw [zeros_eq]
  unfold Tk Xk before opened pers rch ats zeros
  iintro ⟨⟨%K, #HI, -, #Hbr, Ht, Hc, Hb, Ho⟩, Hz, #Hlev⟩
  imod (show _ ⊢ (|={Set.univ}=> bigSep Finset.univ (fun k : Fin 130 => iprop(atPos (ER (F := F)) (dm c (own k)) 0 ∅ 0 ∗ reached (ER (F := F)) (dm c (own k)) 0)) : sProp 𝕄)
    from cells_open (ER (F := F)) (Rd (argA m)) Finset.univ (fun k : Fin 130 => dm c (own k)) (fun k => K (dm c (own k))) (fun _ _ => Set.mem_univ _)) $$ [Ho Hz] with Ho
  · isplitl [Ho]
    · iapply (Entails.of_eq (bigSep_sep' Finset.univ (fun k : Fin 130 => cellInv (ER (F := F)) (Rd (argA m)) (K (dm c (own k))) (dm c (own k)))
        (fun k => openTok (ER (F := F)) (dm c (own k)))).symm)
      isplitr [Ho]
      · iapply (BI.bigSep_of_persistent (M := 𝕄) Finset.univ (invs (argA m) K) |>.trans
          (bigSep_mono fun k _ => inv_dm (argA m) K c (own k) (by simp only [own]; omega)))
        iexact HI
      iexact Ho
    iexact Hz
  ihave Ho := (Entails.of_eq (bigSep_sep' Finset.univ (fun k : Fin 130 => atPos (ER (F := F)) (dm c (own k)) 0 ∅ 0)
    (fun k => reached (ER (F := F)) (dm c (own k)) 0))) $$ Ho
  icases Ho with ⟨Ha, #Hr⟩
  imodintro
  iexists K
  isplitr
  · isplitr
    · isplitr; · iexact HI
      isplitr; · iexact Hlev
      iexact Hr
    iexact Hbr
  isplitl [Ht]; · iexact Ht
  isplitl [Hc]; · iexact Hc
  isplitl [Hb]; · iexact Hb
  iexact Ha

theorem rest_eq : (Pipeline.scopedRest (Ix := Unit) (Name := ℕ) (U := UU) (Lvl := ℕ) (Val := Elt F) (Pipeline.pin (pcfgs (F := F)) adm 0).spec c : sProp 𝕄)
    = scr (F := F) c := scopedRest0_eq c

/-- What enters the region is what its first point needs. -/
theorem hin : iprop(Pipeline.scopedRest (Pipeline.pin (pcfgs (F := F)) adm 0).spec c ∗ (∃ r, prngReg c r) ∗ StableHlo.held (c.tc : Thread nD τ) Hs (V₁ m c) ∗ Xk m c)
    ⊢ (pdats m 0 c).Φ 0 := by
  rw [show (pdats m 0 c).Φ 0 = Φ₀ m c from rfl, rest_eq, held_Hs, V₁_arg0]
  unfold Φ₀
  iintro ⟨Hs, Hp, HA, HX⟩
  isplitl [HX]; · iexact HX
  isplitl [Hs]; · iexact Hs
  isplitl [HA]; · iexact HA
  iexact Hp

/-- What its last point leaves is what leaves the region. -/
theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c)
      ∗ Pipeline.ownSems0 osem c ∗ semVal (bar c) 0) := by
  rw [show (pdats m 0 c).Φ (Fin.last _) = Φ₁ m c from rfl, rest_eq, held_Hs, V₂_arg0, zeros_eq]
  unfold Φ₁
  iintro ⟨⟨Hb, Hz⟩, Hs, HA, Hp⟩
  isplitl [Hs]; · iexact Hs
  isplitl [Hp]; · iexact Hp
  isplitl [HA]; · iexact HA
  isplitl [Hz]; · iexact Hz
  iexact Hb

theorem osem_facts : Pipeline.OwnSemFacts spec0 osem where
  isScoped := by decide
  inj := osem_inj
  disj k w s h := by
    have h1 : (own k).val = ((spec0 w).sem s).val := congrArg Fin.val (SemLoc.dma.inj h)
    have h2 : ∀ (w : Fin 2) (s : Fin (spec0 w).nbuf), ((spec0 w).sem s).val < 2 := by decide
    have h3 := h2 w s
    simp only [own] at h1
    omega

theorem share_eq (w : Fin cfg0.W) : (pdats m 0 c).share w = fullShare := by unfold Dat.share; split <;> rfl

theorem owed_cut (t : Fin ((Pipeline.pin (pcfgs (F := F)) adm 0).N + 1)) (g : GSem nD τ sig) (i : Unit) (h : 0 < (pdats (F := F) m 0 c).owed t g i) :
    i ∈ L g ∧ (0 : ℕ) < lv g i := by
  have key : ∀ O : CellTallies nD τ sig Unit, Above 0 O → 0 < O g i → i ∈ L g ∧ (0 : ℕ) < lv g i := fun O hO h => by
    obtain ⟨h1, h2⟩ := hO g i h
    exact ⟨by unfold L; rw [if_pos h1]; exact Finset.mem_singleton_self _, h2⟩
  obtain ⟨_ | n, ht⟩ := t
  · exact key (O₀ c) (above_O₀ c) h
  · exact key 0 (Above.zero 0) h

theorem stage_low : ∀ (w : Fin 2) (s : Fin (spec0 w).nbuf), lvOf (.dma ((spec0 w).sem s)) ≤ 0 := by decide

set_option backward.isDefEq.respectTransparency.types false in
/-- The region as a segment of a core's program. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    Hs Sr (by decide) launch0.toP rfl (fun c => (body_ob m c).loose)
    (fun _ => 0) O₀ (fun c => (zero_add (O₀ c)).symm) (fun _ => rfl) (fun _ => rfl) (share_eq m)
    (V₁ m) (V₂ m) (fun c b hb => by
      have : b = Proc.devRef .tc main_arg1 := by
        revert b; decide
      subst this; exact V₂_ne m c main_arg1 (by decide))
    (Tk m) (fun c => semVal (bar c) 0) (Xk m) (fun c => semVal (bar c) 0) (hopen m) (hin m) (hout m)
    (fun c => by iintro H; imodintro; iexact H)
    (fun _ => 0)
    ⟨fun c w s => by rw [L_tc]; exact Finset.mem_singleton_self _, fun c w s => stage_low w s, fun c t g i h => owed_cut m c t g i h⟩
    (fun _ => iprop(emp))
    (fun c w => rfl)
    (fun c w => by
      match w with
      | ⟨0, _⟩ => exact (arr_in m c).trans (V₂_ne m c main_v1 (by decide)).symm
      | ⟨1, _⟩ => exact (arr_out m c).trans (V₂_v2 m c).symm)

end Cert.Proof.K

end
-- ==== Proof.Launch.lean ====
/-
The program as segments, and what the launch hands each core.
-/
module

public import proofs.«01_k».proof.Proof.Region

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## The segments -/

/-- The unscoped buffers. -/
def bufs : Finset (DevRef τ sig) := (StableHlo.tcRefs τ sig).filter fun b => ¬ b.isScoped

theorem unscoped_held (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem held_bufs (W : Valuation τ sig (Elt F)) : (StableHlo.held (c : Thread nD τ) bufs W : sProp 𝕄)
    = iprop(wh c main_arg0 (W (Proc.devRef .tc main_arg0)) ∗ wh c main_arg1 (W (Proc.devRef .tc main_arg1))
      ∗ wh c main_v1 (W (Proc.devRef .tc main_v1)) ∗ wh c main_v2 (W (Proc.devRef .tc main_v2))) := by
  unfold StableHlo.held
  rw [bigSep_eq_bigSepL_of_eq [Proc.devRef .tc main_arg0, Proc.devRef .tc main_arg1, Proc.devRef .tc main_v1, Proc.devRef .tc main_v2] (by decide) (by decide)]
  rfl
theorem held_Sr (W : Valuation τ sig (Elt F)) : (StableHlo.held (c : Thread nD τ) Sr W : sProp 𝕄)
    = iprop(wh c main_arg0 (W (Proc.devRef .tc main_arg0)) ∗ wh c main_arg1 (W (Proc.devRef .tc main_arg1))) := by
  unfold StableHlo.held
  rw [bigSep_eq_bigSepL_of_eq [Proc.devRef .tc main_arg0, Proc.devRef .tc main_arg1] (by decide) (by decide)]
  rfl
theorem held_arr (W : Valuation τ sig (Elt F)) :
    (StableHlo.held (c : Thread nD τ) (Pipeline.arrRefs (τ := τ) (pcfgs (F := F) 0).spec) W : sProp 𝕄)
    = iprop(wh c main_v1 (W (Proc.devRef .tc main_v1)) ∗ wh c main_v2 (W (Proc.devRef .tc main_v2))) := by
  have e : Pipeline.arrRefs (τ := τ) (pcfgs (F := F) 0).spec = {Proc.devRef .tc main_v1, Proc.devRef .tc main_v2} := by
    show Pipeline.arrRefs (τ := τ) spec0 = _
    decide
  unfold StableHlo.held
  rw [e, bigSep_eq_bigSepL_of_eq [Proc.devRef .tc main_v1, Proc.devRef .tc main_v2] (by decide) (by decide)]
  rfl

/-- What rides beside the buffers. -/
def Rid : sProp 𝕄 := iprop((∃ r, prngReg c r) ∗ Tk m c ∗ ow (F := F) c (O₀ c))

def V₀ : Valuation τ sig (Elt F) := fun b => m (c, b)

theorem ops_sub : ∀ op ∈ (hostOps0 : List (HloOp τ sig (Elt F))), op.bufs ⊆ bufs := fun op h => by
  simp only [hostOps0, List.mem_singleton] at h; subst h
  show ({Proc.devRef .tc main_arg1, Proc.devRef .tc main_v1} : Finset (DevRef τ sig)) ⊆ bufs
  decide

def seg0 : Pipeline.HostSeg (Name := ℕ) (U := UU) (pcfgs (F := F)) defs₀ 𝒱₀ L lv :=
  Pipeline.HostSeg.ofOps _ _ _ _ _ bufs hostOps0 ops_sub (List.forall_iff_forall_mem.mp hostOps0_fresh) (V₀ m) (Rid m)

def segs : List (Pipeline.Seg (pcfgs (F := F)) adm (pdats m) () defs₀ 𝒱₀ L lv) := [.host (seg0 m), .region (reg0 m)]

/-- A core's program is the host's reshape followed by the region. -/
theorem main_eq : main (F := F) c = Pipeline.Seg.run (segs m) :=
  main_segs adm (pdats m) () 𝒱₀ L lv (seg0 m) (reg0 m) rfl c

/-- What the region takes, out of what the host part left. -/
theorem reg_pre : iprop(StableHlo.held (c : Thread nD τ) bufs (V₁ m c) ∗ Rid m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) Sr (V₁ m c) ∗ emp) ∗ Tk m c ∗ ∃ Wd, owes (c : Thread nD τ) (0 + O₀ c) Wd)
  rw [held_arr, held_bufs, held_Sr, zero_add]
  unfold Rid ow
  iintro ⟨⟨H0, H1, H2, H3⟩, Hp, HT, HO⟩
  isplitl [H2 H3]; · isplitl [H2] <;> iassumption
  isplitl [Hp]; · iexact Hp
  isplitl [H0 H1]
  · isplitl [H0 H1]; · isplitl [H0] <;> iassumption
    iempintro
  isplitl [HT]; · iexact HT
  iexact HO

/-- What a core ends with. -/
def Tₙ : sProp 𝕄 := iprop(StableHlo.held (c : Thread nD τ) bufs (V₂ m c) ∗ semVal (bar c) 0)

/-- What the region leaves. -/
theorem reg_post : (reg0 m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) Sr (V₂ m c) ∗ emp) ∗ semVal (bar c) 0 ∗ ∃ Wd, owes (c : Thread nD τ) (0 : CellTallies nD τ sig Unit) Wd) ⊢ _
  unfold Tₙ
  rw [held_arr, held_bufs, held_Sr]
  iintro ⟨⟨H2, H3⟩, -, ⟨⟨H0, H1⟩, -⟩, Hb, HO⟩
  isplitr [HO]
  · isplitr [Hb]
    · isplitl [H0]; · iexact H0
      isplitl [H1]; · iexact H1
      isplitl [H2] <;> iassumption
    iexact Hb
  iexact HO

/-! ## The launch -/

/-- The launch element: the pipeline's at its staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells dmCells toks)

/-- A resource given to the first core. -/
def first (X : sProp 𝕄) (c : Dev nD) : sProp 𝕄 := if c = 0 then X else iprop(emp)
theorem bigSep_first (X : sProp 𝕄) : bigSep Finset.univ (first X) = X := by
  rw [bigSep_univ_at _ (0 : Dev nD), bigSep_congr (s := Finset.univ.erase (0 : Dev nD)) (Ψ := fun _ => (BI.emp : sProp 𝕄))
      fun c hc => by unfold first; rw [if_neg (Finset.ne_of_mem_erase hc)]; rfl, BI.bigSep_emp_const]
  unfold first; rw [if_pos rfl]
  exact BI.equiv_iff.mp sep_emp

def elem : sProp 𝕄 := BI.own (ER (F := F) (launchOf barCells dmCells toks))
def Gd : Dev nD → sProp 𝕄 := first elem

theorem unscopedSems_eq : (unscopedSems0 c : sProp 𝕄) = semVal (bar c) 0 := by
  unfold unscopedSems0
  rw [show (Finset.univ.filter fun sm : SemLoc sig => ¬ sm.isScoped .tc) = {SemLoc.reg barS} from by decide, BI.bigSep_singleton]

/-- What all cores may consult: the invariants, and the barriers in use. -/
def records (K : GSem nD τ sig → ℕ) : sProp 𝕄 :=
  iprop(invs (argA m) K ∗ levAts L lv ∗ bigSep barCells fun g => reached (ER (F := F)) g 0)
instance records_persistent (K : GSem nD τ sig → ℕ) : BI.Persistent (records m K) := by unfold records; infer_instance

theorem reached_at : (bigSep barCells fun g => (reached (ER (F := F)) g 0 : sProp 𝕄)) ⊢ reached (ER (F := F)) (bar c) 0 :=
  bigSep_elim (Finset.mem_map_of_mem barEmb (Finset.mem_univ c))

/-- What each core holds for itself: of the protocol, and else. -/
def mine : sProp 𝕄 :=
  iprop(atPos (ER (F := F)) (bar c) 0 ∅ 0 ∗ (bigSep Finset.univ fun k : Fin 130 => openTok (ER (F := F)) (dm c (own k)))
    ∗ barToks (F := F) c ∗ remToks (F := F) c ∗ ownToks (F := F) c)
def rest : sProp 𝕄 :=
  iprop(StableHlo.held (c : Thread nD τ) bufs (V₀ m c) ∗ creds (F := F) c ∗ ow (F := F) c (O₀ c) ∗ ∃ r, prngReg c r)

abbrev T₀ : sProp 𝕄 := iprop(StableHlo.held (c : Thread nD τ) bufs (V₀ m c) ∗ Rid m c)

/-- One core's start, out of its part of the launch. -/
theorem mk_T₀ (K : GSem nD τ sig → ℕ) : iprop(records m K ∗ (mine (F := F) c ∗ rest m c)) ⊢ T₀ m c := by
  unfold records mine rest T₀ Rid Tk before barRch
  iintro ⟨⟨#HI, #Hlev, #HR⟩, ⟨Ha, Ho, Hb, Hr, Ht⟩, Hh, Hc, HO, Hp⟩
  isplitl [Hh]; · iexact Hh
  isplitl [Hp]; · iexact Hp
  isplitr [HO]
  · iexists K
    isplitr; · iexact HI
    isplitr; · iexact Hlev
    isplitr
    · isplitr; · iapply (reached_at (F := F) (nz c)); iexact HR
      isplitr; · iapply (reached_at (F := F) (nx c)); iexact HR
      iapply (reached_at (F := F) (ny c)); iexact HR
    isplitl [Hb Hr Ht]
    · isplitl [Hb]; · iexact Hb
      isplitl [Hr] <;> iassumption
    isplitl [Hc]; · iexact Hc
    isplitl [Ha] <;> iassumption
  iexact HO

/-- A persistent record may be used on every core. -/
theorem with_records {S : Finset (Dev nD)} {R : sProp 𝕄} [BI.Persistent R] {Φ Ψ : Dev nD → sProp 𝕄} (h : ∀ i ∈ S, iprop(R ∗ Φ i) ⊢ Ψ i) :
    iprop(R ∗ bigSep S Φ) ⊢ bigSep S Ψ :=
  (sep_mono_left (BI.bigSep_of_persistent S R)).trans (by rw [← bigSep_sep']; exact bigSep_mono h)

/-- A core's launch holdings, the counter and the launch element apart. -/
theorem core_init : iprop(unscopedBufs c (fun b => m ((c : Thread nD τ).loc b)) ∗ unscopedSems0 c
      ∗ owes (c : Thread nD τ) (O₀ c) ∅ ∗ Pipeline.launchCred O₀ c ∗ prngReg c (ρ c) ∗ Gd (F := F) c)
    ⊢ (iprop(rest m c ∗ (semVal (bar c) 0 ∗ Gd (F := F) c)) : sProp 𝕄) := by
  rw [show unscopedBufs c (fun b => m ((c : Thread nD τ).loc b)) = (StableHlo.held (c : Thread nD τ) bufs (V₀ m c) : sProp 𝕄) from unscoped_held c (V₀ m c),
    unscopedSems_eq]
  unfold rest ow
  iintro ⟨Hh, Hs, HO, Hc, Hp, HG⟩
  isplitr [Hs HG]
  · isplitl [Hh]; · iexact Hh
    isplitl [Hc]; · iapply (mk_creds (F := F) c); iexact Hc
    isplitl [HO]; · iexists ∅; iexact HO
    iexists (ρ c); iexact Hp
  isplitl [Hs] <;> iassumption

theorem at_split : bigSep barCells (fun g => (atPos (ER (F := F)) g 0 ∅ 0 : sProp 𝕄)) = bigSep Finset.univ fun c : Dev nD => atPos (ER (F := F)) (bar c) 0 ∅ 0 :=
  bigSep_map (s := Finset.univ) barEmb
theorem val_split : bigSep barCells (fun g => (semVal g 0 : sProp 𝕄)) = bigSep Finset.univ fun c : Dev nD => semVal (bar c) 0 :=
  bigSep_map (s := Finset.univ) barEmb
theorem open_split : bigSep dmCells (fun g => (openTok (ER (F := F)) g : sProp 𝕄))
    = bigSep Finset.univ fun c : Dev nD => bigSep Finset.univ fun k : Fin 130 => openTok (ER (F := F)) (dm c (own k)) := by
  rw [bigSep_map, bigSep_univ_prod]; rfl

/-- All tokens dealt. -/
theorem deal : bigSep toks (fun x => (dutyTok (ER (F := F)) x.1 x.2.1 x.2.2 : sProp 𝕄))
    ⊢ bigSep Finset.univ fun c : Dev nD => iprop(barToks (F := F) c ∗ remToks (F := F) c ∗ ownToks (F := F) c) := by
  rw [toks_eq, deal_bar, bigSep_sep']
  exact sep_mono_right (deal_dm (F := F))

/-- The launch: from the initial memory to what each core starts with. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ Gd (F := F) c)) ∗ levAts L lv)
      ⊢ (|={Set.univ}=> bigSep Finset.univ (T₀ m) : sProp 𝕄) := by
  refine (sep_mono_left (bigSep_mono fun c _ => core_init m ρ c)).trans ?_
  rw [bigSep_sep', bigSep_sep', ← val_split, show bigSep Finset.univ (Gd (F := F)) = elem (F := F) from bigSep_first elem]
  unfold elem
  show (_ : sProp 𝕄) ⊢ _
  iintro ⟨⟨HB, Hv, Hu⟩, #Hlev⟩
  imod (Rounds.fund_launch (ER (F := F)) (Rd (argA m)) cells_disj (fun g _ h => h) toks) $$ [Hv Hu] with ⟨%K, -, #Hinv, #Hr, Hat, Hopen, Htok⟩
  · isplitl [Hv]; · iexact Hv
    iexact Hu
  imodintro
  iapply (with_records (R := records m K) (Φ := fun c => iprop(mine (F := F) c ∗ rest m c)) fun c _ => mk_T₀ m c K)
  isplitr
  · unfold records invs
    isplitr; · iexact Hinv
    isplitr; · iexact Hlev
    iexact Hr
  iapply (Entails.of_eq (bigSep_sep' Finset.univ (fun c => mine (F := F) c) (fun c => rest m c)).symm)
  isplitr [HB]
  · unfold mine
    iapply (Entails.of_eq (bigSep_sep' Finset.univ (fun c : Dev nD => atPos (ER (F := F)) (bar c) 0 ∅ 0) _).symm)
    isplitl [Hat]; · iapply (Entails.of_eq (at_split (F := F))); iexact Hat
    iapply (Entails.of_eq (bigSep_sep' Finset.univ (fun c : Dev nD => bigSep Finset.univ fun k : Fin 130 => openTok (ER (F := F)) (dm c (own k))) _).symm)
    isplitl [Hopen]; · iapply (Entails.of_eq (open_split (F := F))); iexact Hopen
    iapply (deal (F := F)); iexact Htok
  iexact HB

end Cert.Proof.K

end
-- ==== Proof.Run.lean ====
/-
The run of the whole program: it ends, leaves the arguments as they were and the result at what each core's body computes, and every counter at zero.
-/
module

public import proofs.«01_k».proof.Proof.Launch

@[expose] public section

noncomputable section

namespace Cert.Proof.K

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The barrier is the only counter that outlives the region. -/
theorem unscoped_sem : ∀ sm : SemLoc sig, sm.isScoped .tc = false → sm = .reg barS := by decide

/-- The region leaves the scale as it was. -/
theorem V₂_arg1 (c : Dev nD) : V₂ m c (Proc.devRef .tc main_arg1) = m ((c : Thread nD τ).loc main_arg1) :=
  (V₂_ne m c main_arg1 (by decide)).trans (V_main_arg1 m c)

/-- What is read off a final state. -/
def Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ s.mem ((c : Thread nD τ).loc main_v2) = res m c

set_option backward.isDefEq.respectTransparency.types false in
/-- The whole run, on every core, at any float values. -/
theorem run_main : θ_run defs (onTc (τ := τ) (main (F := F))) ⟨m, fun _ => 0, ρ⟩
    (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := Gd) (u₀ := u₀)
    (hu₀ := by
      unfold u₀ Gd
      iintro Hu
      ihave H := (ownU_pair _ _) $$ Hu
      icases H with ⟨HP, HX⟩
      imodintro
      isplitl [HP]; · iexact HP
      rw [bigSep_first]; unfold elem; iexact HX)
    (T₀ := T₀ m) (Tₙ := Tₙ m)
    (hch := ⟨fun c => .rfl, fun c => reg_pre m c, fun c => reg_post m c⟩)
    (hinit := init m ρ)
    (QY := fun c s => Ends m c s ∧ s.sem (bar c) = 0)
    (hfin := fun c s' => by
      dsimp only [Tₙ]; rw [held_bufs]
      iintro ⟨⟨⟨H0, H1, -, H3⟩, Hb⟩, HSI⟩
      icombine HSI H0 gives %h0
      icombine HSI H1 gives %h1
      icombine HSI H3 gives %h3
      icombine HSI Hb gives %hb
      imodintro
      isplitr
      · ipureintro
        exact ⟨⟨⟨(Buf.eq_of_forall_mem_univ h0).trans (V₂_arg0 m c), (Buf.eq_of_forall_mem_univ h1).trans (V₂_arg1 m c)⟩,
          (Buf.eq_of_forall_mem_univ h3).trans (V₂_v2 m c)⟩, by simpa using hb⟩
      iexact HSI)
    (hQ := fun s h hs => ⟨fun c => (h c).1,
      sem_eq_zero hs fun c sm hsm => by
        obtain rfl := unscoped_sem sm hsm
        exact (h c).2⟩)

end Cert.Proof.K

end
-- ==== Proof.Frames.lean ====
/-
The frames: each program ends, its arguments unchanged and every counter at zero.
-/
module

public import proofs.«01_k».proof.Defs
public import proofs.«01_k».proof.Proof.Run
public import proofs.«01_k».proof.Proof.Gen.Kernel
public import proofs.«01_k».proof.Proof.Gen.ReferenceIdeal
public import Idealize.ShloMosaic.Lib.Claim
public import Idealize.ShloMosaic.Lib.Quiescent

@[expose] public section

noncomputable section

namespace Cert.Proof.K

open Idealize.ShloMosaic Idealize.ShloMosaic.TcCoe Idealize.SL.Sem

/-- What a frame says, at any float instance, of the kernel's text. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).1, h.2⟩) (run_main m ρ)

/-- The ideal kernel's frame. -/
theorem frame_ideal : Cert.quiescent_KernelIdeal := fun m ρ _ => frame_any m ρ

/-! ## The same text under another name -/

section
variable {F : FTy → Type} [FloatOps F]

set_option backward.isDefEq.respectTransparency.types false in
/-- The two programs have the same bodies. -/
theorem bodies_eq : Cert.Kernel.defs₀ (F := F) = Cert.KernelIdeal.defs₀ (F := F) := by
  funext p ℓ a
  cases p with
  | tc =>
    obtain ⟨_|n, h⟩ := ℓ
    · rfl
    · exact absurd h (Nat.not_lt.2 (Nat.le_add_left _ _))
  | _ => rfl

set_option backward.isDefEq.respectTransparency.types false in
/-- And the same definitions. -/
theorem defs_eq : Cert.Kernel.defs (F := F) = Cert.KernelIdeal.defs (F := F) :=
  congrArg (Pipeline.defs Cert.KernelIdeal.pcfgs) bodies_eq

end

set_option backward.isDefEq.respectTransparency.types false in
/-- The kernel's frame, at machine words. -/
theorem frame_bits : Cert.quiescent_Kernel := by
  intro m ρ _
  rw [defs_eq]
  exact frame_any (F := Bits) m ρ

/-! ## The reference -/

/-- The reference's frame. -/
theorem frame_ref : Cert.quiescent_ReferenceIdeal := by
  intro m ρ _
  hlo_run
  · exact fun _ => ⟨trivial, trivial⟩
  · exact sem_eq_zero_of_no_sems (by decide) _

end Cert.Proof.K

end
-- ==== Proof.Scalars.lean ====
/-
The scalar law behind the ideal equation: dividing by the root of a positive quantity is multiplying by its reciprocal
root, at the infinities too; and the two constants, which make the quantity positive.
-/
module

public import Idealize.ShloMosaic.PureOps.Ideal

@[expose] public section

noncomputable section

namespace Cert.Proof.K

open Idealize.ShloMosaic

/-- The row length, as the extended real its pattern denotes. -/
theorem len_val : Ideal.ofBits .f32 0x45000000#32 = ((2048 : ℝ) : EReal) := by
  simp [Ideal.ofBits, Ideal.ieee, -EReal.coe_mul]; norm_num

/-- The small constant is above zero. -/
theorem eps_pos : 0 < Ideal.ofBits .f32 0x358637BD#32 := by
  have h : Ideal.ofBits .f32 0x358637BD#32 = ((8796093 * (2 : ℝ) ^ (-43 : Int) : ℝ) : EReal) := by
    simp [Ideal.ofBits, Ideal.ieee, -EReal.coe_mul]
  rw [h]
  exact_mod_cast (by positivity : (0 : ℝ) < 8796093 * (2 : ℝ) ^ (-43 : Int))

/-- A square is not negative, the infinities included. -/
theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

/-- What a row's root is taken of: the mean of the squares, plus the small constant. -/
def meanSq (y : Fin 2048 → EReal) : EReal :=
  Ideal.div (∑ k, y k * y k) (Ideal.ofBits .f32 0x45000000#32) + Ideal.ofBits .f32 0x358637BD#32

/-- The quantity under the root is positive. -/
theorem meanSq_pos (y : Fin 2048 → EReal) : 0 < meanSq y := by
  unfold meanSq
  rw [len_val, Ideal.div_coe (by norm_num)]
  have h : 0 ≤ (∑ k, y k * y k) * ((1 / 2048 : ℝ) : EReal) :=
    mul_nonneg (Finset.sum_nonneg fun k _ => sq_nonneg' (y k)) (by exact_mod_cast (by norm_num : (0 : ℝ) ≤ 1 / 2048))
  calc (0 : EReal) < Ideal.ofBits .f32 0x358637BD#32 := eps_pos
    _ = 0 + Ideal.ofBits .f32 0x358637BD#32 := (zero_add _).symm
    _ ≤ _ := add_le_add_left h _

/-- Dividing by the root of a positive quantity. -/
theorem div_sqrt (x v : EReal) (hv : 0 < v) : Ideal.div x (Ideal.sqrt v) = x * Ideal.rsqrt v := by
  induction v with
  | bot => exact absurd hv (not_lt.mpr bot_le)
  | top => simp [Ideal.div]
  | coe r =>
    have hr : 0 < r := by exact_mod_cast hv
    have hs : Real.sqrt r ≠ 0 := (Real.sqrt_pos.mpr hr).ne'
    rw [Ideal.sqrt_coe, if_neg (not_lt.mpr hr.le), Ideal.rsqrt_coe, if_neg (not_lt.mpr hr.le), if_neg hr.ne', Ideal.div_coe hs, one_div]

/-- One element of a normalised row. -/
def rowOut (y : Fin 2048 → EReal) (g : EReal) (l : Fin 2048) : EReal := y l * Ideal.rsqrt (meanSq y) * g

end Cert.Proof.K

end
-- ==== Proof.Ref.lean ====
/-
The reference: the run, and what its result holds at an index.
-/
module

public import proofs.«01_k».proof.Defs
public import proofs.«01_k».proof.Proof.Scalars
public import proofs.«01_k».proof.Proof.Gen.ReferenceIdeal
public import Idealize.ShloMosaic.Lib.Claim
public import Idealize.ShloMosaic.Lib.Quiescent
public import Idealize.ShloMosaic.Lib.Pipeline.Value
public import Idealize.ShloMosaic.Lib.ValueIdx
public import Idealize.ShloMosaic.PureOps.Ideal.Laws

@[expose] public section

noncomputable section

namespace Cert.Proof.R

open Idealize.ShloMosaic Idealize.ShloMosaic.TcCoe Idealize.SL.Sem Idealize.ShloMosaic.ValueIdx
open Cert.ReferenceIdeal Cert.ReferenceIdeal.Gen
open Cert.Proof.K (rowOut meanSq meanSq_pos div_sqrt)

/-- The two partial sums added. -/
def total (x : FVec Ideal S2x4096x2048 .f32) : FVec Ideal S4096x2048 .f32 :=
  Host.reduceAdd x (constant S_ .f32 0x00000000#32) reducesTo_S2x4096x2048_S4096x2048_d0 h_S_

/-- The column of mean squares. -/
def means (y : FVec Ideal S4096x2048 .f32) : FVec Ideal S4096x1 .f32 :=
  addf (Host.divf (broadcastInDim S4096x1 ![0] bcast_S4096_S4096x1_0
      (Host.reduceAdd (mulf y y) (constant S_ .f32 0x00000000#32) reducesTo_S4096x2048_S4096_d1 h_S_))
    (broadcastInDim S4096x1 ![] bcast_S_S4096x1 (constant S_ .f32 0x45000000#32)))
    (broadcastInDim S4096x1 ![] bcast_S_S4096x1 (constant S_ .f32 0x358637BD#32))

/-- The result, of the partial sums and gamma. -/
def out (x : FVec Ideal S2x4096x2048 .f32) (g : FVec Ideal S2048 .f32) : FVec Ideal S4096x2048 .f32 :=
  mulf (Host.divf (total x) (broadcastInDim S4096x2048 ![0, 1] bcast_S4096x1_S4096x2048_0_1 (Host.sqrt (means (total x)))))
    (broadcastInDim S4096x2048 ![0, 1] bcast_S1x2048_S4096x2048_0_1 (broadcastInDim S1x2048 ![1] bcast_S2048_S1x2048_1 g))

variable (m : (ℓ : Loc nD τ sig) → Buf (Elt Ideal) ℓ) (ρ : Dev nD → PrngReg)

/-- The reference runs, its result at `out` of its arguments, which it leaves unchanged. -/
theorem run : θ_run (defs (F := Ideal)) (onTc (τ := τ) (main (F := Ideal))) ⟨m, fun _ => 0, ρ⟩ (fun r =>
    r.2.mem (((0 : Dev nD).tc : Thread nD τ).loc main_v13) = out (m (((0 : Dev nD).tc : Thread nD τ).loc main_arg0)) (m (((0 : Dev nD).tc : Thread nD τ).loc main_arg1))
    ∧ r.2.mem (((0 : Dev nD).tc : Thread nD τ).loc main_arg0) = m (((0 : Dev nD).tc : Thread nD τ).loc main_arg0)
    ∧ r.2.mem (((0 : Dev nD).tc : Thread nD τ).loc main_arg1) = m (((0 : Dev nD).tc : Thread nD τ).loc main_arg1)) := by
  hlo_run
  rfl

/-! ## At an index -/

/-- The zero pattern denotes zero. -/
theorem zero_const : FloatOps.ofBits (F := Ideal) .f32 0x00000000#32 = (0 : EReal) := by
  rw [Ideal.ofBits_def]; simp [Ideal.ofBits, Ideal.ieee]

/-- The sum of the partial sums at an index. -/
theorem total_apply (x : FVec Ideal S2x4096x2048 .f32) (p : Fin 4096) (l : Fin 2048) :
    total x (ix2 p l) = ((x (ix3 (0 : Fin 2) p l) : EReal) + x (ix3 (1 : Fin 2) p l) : EReal) := by
  have h : S2x4096x2048.Reduces [0] S4096x2048 := by decide
  show Ideal.hostReduceAdd _ x (FloatOps.ofBits (F := Ideal) .f32 0x00000000#32) (ix2 p l) = _
  rw [Ideal.hostReduceAdd_single _ h, zero_const, zero_add]
  show (∑ k : Fin 2, x (h.lift (ix2 p l) k)) = _
  rw [Fin.sum_univ_two]
  congr 1
  · congr 1; funext a; fin_cases a <;> rfl
  · congr 1; funext a; fin_cases a <;> rfl

/-- The mean of squares of a row, plus the small constant. -/
theorem means_apply (y : FVec Ideal S4096x2048 .f32) (p : Fin 4096) :
    means y (ix2 p (0 : Fin 1)) = meanSq fun l => y (ix2 p l) := by
  have h : S4096x2048.Reduces [1] S4096 := by decide
  unfold means meanSq
  show Ideal.div _ _ + _ = _
  congr 1
  · congr 1
    rw [broadcastInDim_apply (k := ix1 p) (hk := fun a => by fin_cases a; rfl)]
    show Ideal.hostReduceAdd _ _ (FloatOps.ofBits (F := Ideal) .f32 0x00000000#32) _ = _
    rw [Ideal.hostReduceAdd_single _ h, zero_const, zero_add]
    refine Finset.sum_congr rfl fun k _ => ?_
    have e : h.lift (ix1 p) k = ix2 p k := by funext a; fin_cases a <;> rfl
    rw [e]; rfl

/-- The reference's result at an index: a normalised row of the two partial sums added. -/
theorem out_apply (x : FVec Ideal S2x4096x2048 .f32) (g : FVec Ideal S2048 .f32) (p : Fin 4096) (l : Fin 2048) :
    out x g (ix2 p l) = rowOut (fun k => ((x (ix3 (0 : Fin 2) p k) : EReal) + x (ix3 (1 : Fin 2) p k) : EReal)) (g (ix1 l)) l := by
  unfold out rowOut
  show Ideal.div (total x (ix2 p l)) _ * _ = _
  rw [broadcastInDim_apply (k := ix2 p (0 : Fin 1)) (hk := fun a => by fin_cases a <;> rfl),
    broadcastInDim_apply (k := ix2 (0 : Fin 1) l) (hk := fun a => by fin_cases a <;> rfl),
    broadcastInDim_apply (k := ix1 l) (hk := fun a => by fin_cases a; rfl)]
  show Ideal.div (total x (ix2 p l)) (Ideal.sqrt (means (total x) (ix2 p 0))) * _ = _
  rw [means_apply, div_sqrt _ _ (meanSq_pos _), total_apply]
  simp only [total_apply]

end Cert.Proof.R

end
-- ==== Proof.Values.lean ====
/-
What the kernel's result holds at an index, at the ideal values: a normalised row of the two devices' partial sums added.
-/
module

public import proofs.«01_k».proof.Proof.Vals
public import proofs.«01_k».proof.Proof.Scalars
public import Idealize.ShloMosaic.Lib.ValueIdx
public import Idealize.ShloMosaic.Lib.ValueLayout
public import Idealize.ShloMosaic.PureOps.Ideal.Laws

@[expose] public section

noncomputable section

namespace Cert.Proof.K

open Idealize.ShloMosaic Idealize.ShloMosaic.TcCoe Idealize.SL Idealize.SL.Sem Idealize.ShloMosaic.ValueIdx
open Cert.KernelIdeal Cert.KernelIdeal.Gen

/-! ## The two copies, read at an index -/

section
variable {F : FTy → Type} [FloatOps F] (A : Dev nD → main_arg0.ty.Contents (Elt F))

/-- Where the staged quarter starts. -/
theorem off1_eq (c : Dev nD) : k0_off1 c = ![0, 2048 * (1 - c.val % 2) + 512 * (c.val / 2), 0] := by
  revert c; decide +kernel
/-- Where the kept half starts. -/
theorem off2_eq (c : Dev nD) : k0_off2 c = ![0, 2048 * (c.val % 2), 0] := by
  revert c; decide +kernel

/-- The kept half at an index. -/
theorem lC_apply (c : Dev nD) (p : Fin 2048) (l : Fin 2048) :
    lC A c (ix2 p l) = A c (ix3 (0 : Fin 1) (⟨2048 * (c.val % 2) + p.val, by omega⟩ : Fin 4096) l) := by
  show A c ((Rect.unit (s := S1x4096x2048) (k0_off2 c) S1x2048x2048.size (k0_off2_inb c)).emb (Shape.reshapeEquiv _ (ix2 p l))) = _
  rw [reshapeEquiv_ix2_1ab]
  congr 1
  funext a
  apply Fin.ext
  have h := congrFun (off2_eq c)
  fin_cases a
  · show k0_off2 c 0 + 1 * 0 = 0; rw [h]; rfl
  · show k0_off2 c 1 + 1 * p.val = 2048 * (c.val % 2) + p.val; rw [h, Nat.one_mul]; rfl
  · show k0_off2 c 2 + 1 * l.val = l.val; rw [h, Nat.one_mul]; exact Nat.zero_add _

/-- The staged quarter at an index. -/
theorem stageC_apply (e : Dev nD) (p : Fin 512) (l : Fin 2048) :
    stageC A e (ix2 p l) = A e (ix3 (0 : Fin 1) (⟨2048 * (1 - e.val % 2) + 512 * (e.val / 2) + p.val, by have : e.val < 8 := e.isLt; omega⟩ : Fin 4096) l) := by
  show A e ((Rect.unit (s := S1x4096x2048) (k0_off1 e) S1x512x2048.size (k0_off1_inb e)).emb (Shape.reshapeEquiv _ (ix2 p l))) = _
  rw [reshapeEquiv_ix2_1ab]
  congr 1
  funext a
  apply Fin.ext
  have h := congrFun (off1_eq e)
  fin_cases a
  · show k0_off1 e 0 + 1 * 0 = 0; rw [h]; rfl
  · show k0_off1 e 1 + 1 * p.val = _; rw [h, Nat.one_mul]; rfl
  · show k0_off1 e 2 + 1 * l.val = l.val; rw [h, Nat.one_mul]; exact Nat.zero_add _

end

/-! ## One chunk of the result -/

/-- One block of the normalisation at an index. -/
theorem payR_apply (a : Vec Ideal S32x2048 .f32) (b : Vec Ideal S32x2048 .fp8e4m3) (g : Vec Ideal S1x2048 .f32) (p : Fin 32) (l : Fin 2048) :
    (payR (F := Ideal) a b g (ix2 p l) : EReal)
      = rowOut (fun k => ((a (ix2 p k) : EReal) + (b (ix2 p k) : EReal) : EReal)) (g (ix2 (0 : Fin 1) l)) l := by
  have h : S32x2048.Reduces [1] S32 := by decide
  unfold payR rowOut
  rw [shapeCast_self]
  show (_ * _ : EReal) * _ = _
  rw [broadcastTo_apply (k := ix2 p (0 : Fin 1)) (hk := fun a => by fin_cases a <;> rfl),
    broadcastTo_apply (k := ix2 (0 : Fin 1) l) (hk := fun a => by fin_cases a <;> rfl)]
  congr 1
  congr 1
  show Ideal.rsqrt _ = _
  congr 1
  unfold meanSq
  show Ideal.div _ _ + _ = _
  congr 1
  congr 1
  rw [shapeCast_apply (k := ix1 p) (hk := by rw [Shape.rowMajor_val_one, Shape.rowMajor_val_two]; show p.val = p.val * 1 + 0; omega)]
  refine (Ideal.multiReduction_add_single _ _ h _ _ _).trans ?_
  refine Finset.sum_congr rfl fun k _ => ?_
  have e : h.lift (ix1 p) k = ix2 p k := by funext a; fin_cases a <;> rfl
  rw [e]; rfl

/-! ## The result -/

variable (A : Dev nD → FVec Ideal S1x4096x2048 .f32) (G : Dev nD → FVec Ideal S1x2048 .f32)

/-- Which device a band of the result came from. -/
theorem qd_z (c : Dev nD) (s : Fin 4) : (qd c s).val = 2 * s.val + (1 - c.val % 2) := by
  revert c s; decide +kernel

/-- Narrowing changes no ideal value. -/
theorem cZ_ideal (e : Dev nD) (j : S512x2048.Idx) : (cZ (F := Ideal) A e j : EReal) = (stageC (F := Ideal) A e j : EReal) := rfl

/-- A core's result at an index: the normalized row of the core's own term plus the one its partner on that band sent. -/
theorem tgt_apply (c : Dev nD) (p : Fin 2048) (l : Fin 2048) :
    (tgt (F := Ideal) A G c (ix2 p l) : EReal)
      = rowOut (fun k => ((A c (ix3 (0 : Fin 1) (⟨2048 * (c.val % 2) + p.val, by omega⟩ : Fin 4096) k) : EReal)
          + (A (qd c ⟨p.val / 512, by omega⟩) (ix3 (0 : Fin 1) (⟨2048 * (c.val % 2) + p.val, by omega⟩ : Fin 4096) k) : EReal) : EReal))
        (G c (ix2 (0 : Fin 1) l)) l := by
  have e := payR_apply (fun j => lC A c ((rO (blk ⟨p.val / 512, by omega⟩ ⟨p.val % 512 / 32, by omega⟩)).emb j))
    (fun j => cZ A (qd c ⟨p.val / 512, by omega⟩) ((rC ⟨p.val % 512 / 32, by omega⟩).emb j)) (G c) ⟨p.val % 32, by omega⟩ l
  have eo : ∀ k : Fin 2048, (rO (blk ⟨p.val / 512, by omega⟩ ⟨p.val % 512 / 32, by omega⟩)).emb (ix2 (⟨p.val % 32, by omega⟩ : Fin 32) k) = ix2 p k := by
    intro k; funext a; apply Fin.ext
    fin_cases a
    · show 32 * (16 * (p.val / 512) + p.val % 512 / 32) + 1 * (p.val % 32) = p.val; omega
    · show 0 + 1 * k.val = k.val; omega
  have ec : ∀ k : Fin 2048, (rC ⟨p.val % 512 / 32, by omega⟩).emb (ix2 (⟨p.val % 32, by omega⟩ : Fin 32) k) = ix2 (⟨p.val % 512, by omega⟩ : Fin 512) k := by
    intro k; funext a; apply Fin.ext
    fin_cases a
    · show 32 * (p.val % 512 / 32) + 1 * (p.val % 32) = p.val % 512; omega
    · show 0 + 1 * k.val = k.val; omega
  have er : 2048 * (1 - (qd c ⟨p.val / 512, by omega⟩).val % 2) + 512 * ((qd c ⟨p.val / 512, by omega⟩).val / 2) + p.val % 512 = 2048 * (c.val % 2) + p.val := by
    rw [qd_z]; simp only; omega
  refine Eq.trans ?_ (e.trans ?_)
  · show payR _ _ _ _ = payR _ _ _ _
    congr 1
    funext a
    fin_cases a <;> rfl
  · congr 1
    funext k
    rw [eo, ec, lC_apply]
    congr 1
    refine (cZ_ideal A _ _).trans ((stageC_apply (F := Ideal) A _ _ _).trans ?_)
    congr 2
    exact Fin.ext er

end Cert.Proof.K

end
-- ==== Proof.Equation.lean ====
/-
The ideal equation: every core's result is its half of the reference's result.
-/
module

public import proofs.«01_k».proof.Proof.Run
public import proofs.«01_k».proof.Proof.Ref
public import proofs.«01_k».proof.Proof.Values

@[expose] public section

noncomputable section

namespace Cert.Proof.K

open Idealize.ShloMosaic Idealize.ShloMosaic.TcCoe Idealize.SL Idealize.SL.Sem Idealize.ShloMosaic.ValueIdx
open Cert.KernelIdeal Cert.KernelIdeal.Gen

/-- The device's place along the cut dimension is its coordinate along z. -/
theorem cut_in : ∀ c : Dev nD, ((Layout.meshBlock [2, 2, 2] ![[2], [], []] c) (0 : Fin 3)).val = c.val % 2 := by decide
/-- The same for the result's cut. -/
theorem cut_out : ∀ c : Dev nD, ((Layout.meshBlock [2, 2, 2] ![[2], []] c) (0 : Fin 2)).val = c.val % 2 := by decide

/-- A device's block of the partial sums, read at an index. -/
theorem block_in (x : FVec Ideal ⟨3, ![2, 4096, 2048]⟩ .f32) (c : Dev nD) (p : Fin 4096) (l : Fin 2048) :
    Layout.blockN ⟨3, ![1, 4096, 2048]⟩ ⟨3, ![2, 4096, 2048]⟩ (Layout.meshBlock [2, 2, 2] ![[2], [], []] c) x (by decide) (ix3 (0 : Fin 1) p l)
      = x (ix3 (⟨c.val % 2, by omega⟩ : Fin 2) p l) := by
  rw [Layout.blockN_apply]
  congr 1
  funext a
  apply Fin.ext
  fin_cases a
  · show ((Layout.meshBlock [2, 2, 2] ![[2], [], []] c) (0 : Fin 3)).val * 1 + 0 = c.val % 2
    rw [cut_in]; omega
  · show 0 * 4096 + p.val = p.val; omega
  · show 0 * 2048 + l.val = l.val; omega

/-- A device's block of the result, read at an index. -/
theorem block_out (y : FVec Ideal ⟨2, ![4096, 2048]⟩ .f32) (c : Dev nD) (p : Fin 2048) (l : Fin 2048) :
    Layout.blockN ⟨2, ![2048, 2048]⟩ ⟨2, ![4096, 2048]⟩ (Layout.meshBlock [2, 2, 2] ![[2], []] c) y (by decide) (ix2 p l)
      = y (ix2 (⟨2048 * (c.val % 2) + p.val, by omega⟩ : Fin 4096) l) := by
  rw [Layout.blockN_apply]
  congr 1
  funext a
  apply Fin.ext
  fin_cases a
  · show ((Layout.meshBlock [2, 2, 2] ![[2], []] c) (0 : Fin 2)).val * 2048 + p.val = 2048 * (c.val % 2) + p.val
    rw [cut_out]; omega
  · show 0 * 2048 + l.val = l.val; omega

/-- One device's term and its partner's, in either order, are the two terms of the sum. -/
theorem add_pair (f : Fin 2 → EReal) (z z' : Fin 2) (h : z'.val = 1 - z.val) : f z + f z' = f 0 + f 1 := by
  fin_cases z
  · rw [show z' = 1 from Fin.ext h]; rfl
  · rw [show z' = 0 from Fin.ext h]; exact add_comm _ _

/-- The kernel's result on blocks of the arrays is the block of the reference's. -/
theorem tgt_out (x : FVec Ideal ⟨3, ![2, 4096, 2048]⟩ .f32) (g : FVec Ideal ⟨1, ![2048]⟩ .f32)
    (A : Dev nD → FVec Ideal S1x4096x2048 .f32) (G : Dev nD → FVec Ideal S1x2048 .f32)
    (hA : ∀ c p l, A c (ix3 (0 : Fin 1) p l) = x (ix3 (⟨c.val % 2, by omega⟩ : Fin 2) p l))
    (hG : ∀ c l, G c (ix2 (0 : Fin 1) l) = g (ix1 l)) (c : Dev nD) :
    tgt (F := Ideal) A G c = Layout.blockN ⟨2, ![2048, 2048]⟩ ⟨2, ![4096, 2048]⟩ (Layout.meshBlock [2, 2, 2] ![[2], []] c) (R.out x g) (by decide) := by
  funext i
  obtain ⟨p, l, rfl⟩ : ∃ (p : Fin 2048) (l : Fin 2048), i = ix2 p l := ⟨i 0, i 1, eq_ix2 i⟩
  rw [block_out, R.out_apply]
  refine (tgt_apply A G c p l).trans ?_
  rw [hG]
  congr 1
  funext k
  rw [hA, hA]
  exact add_pair (fun z => x (ix3 z _ k)) _ _ (by show (qd c _).val % 2 = 1 - c.val % 2; rw [qd_z]; omega)

end Cert.Proof.K

end
-- ==== Proof.Algebraic.lean ====
/-
The claim that the kernel computes, on the ideal values, what the reference does.
-/
module

public import proofs.«01_k».proof.Proof.Equation
public import proofs.«01_k».proof.Defs

@[expose] public section

noncomputable section

namespace Cert.Proof.K

open Idealize.ShloMosaic Idealize.ShloMosaic.TcCoe Idealize.SL Idealize.SL.Sem Idealize.ShloMosaic.ValueIdx
open Cert.KernelIdeal Cert.KernelIdeal.Gen

/-- The scale each core's body finds is the argument, laid out as one row. -/
theorem argG_apply (m : (ℓ : Loc nD τ sig) → Buf (Elt Ideal) ℓ) (c : Dev nD) (l : Fin 2048) :
    argG m c (ix2 (0 : Fin 1) l) = (m ((c : Thread nD τ).loc main_arg1) : FVec Ideal ⟨1, ![2048]⟩ .f32) (ix1 l) := by
  have e : argG m c = shapeCast S1x2048 (m ((c : Thread nD τ).loc main_arg1) : FVec Ideal S2048 .f32) shapeCasts_S2048_S1x2048 := by
    rw [argG_eq]
    unfold V
    after_results
    rfl
  rw [e]
  refine (shapeCast_addUnit_apply ![2048] _ _ (ix2 (0 : Fin 1) l)).trans ?_
  congr 1
  funext a
  fin_cases a
  rfl

/-- The kernel's result on every core is its block of the reference's result. -/
theorem algebraic : Cert.algebraic_KernelIdeal_ReferenceIdeal := by
  intro m ρ m' ρ' _ h
  have hA : ∀ (c : Dev nD) (p : Fin 4096) (l : Fin 2048), argA m c (ix3 (0 : Fin 1) p l)
      = (m' (((0 : Dev Cert.ReferenceIdeal.nD).tc : Thread Cert.ReferenceIdeal.nD Cert.ReferenceIdeal.τ).loc Cert.ReferenceIdeal.main_arg0)) (ix3 (⟨c.val % 2, by omega⟩ : Fin 2) p l) :=
    fun c p l => (congrFun (h c).1 _).trans (block_in _ c p l)
  have hG : ∀ (c : Dev nD) (l : Fin 2048), argG m c (ix2 (0 : Fin 1) l)
      = (m' (((0 : Dev Cert.ReferenceIdeal.nD).tc : Thread Cert.ReferenceIdeal.nD Cert.ReferenceIdeal.τ).loc Cert.ReferenceIdeal.main_arg1)) (ix1 l) :=
    fun c l => (argG_apply m c l).trans (congrFun (h c).2 _)
  exact ⟨R.out _ _, (θ_run _ _ _).mono (fun r hr c => ⟨(hr.1 c).2.trans (tgt_out _ _ _ _ hA hG c), (hr.1 c).1⟩) (run_main (F := Ideal) m ρ), R.run m' ρ'⟩

end Cert.Proof.K

end
-- ==== Proof.lean ====
/-
The proof of `Cert.Claim`: the three frames, the unchanged text, and the equation on the ideal values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  K.frame_bits, K.frame_ideal, K.frame_ref, trivial, K.algebraic⟩

end Cert.Proof

end
